-- ==== Defs.lean ====
def Pre_Kernel [hPre_words_in_vocab : Cert.Pre_words_in_vocab.Facts] (m : (ℓ : Loc Cert.Kernel.nD Cert.Kernel.τ Cert.Kernel.sig) → Buf (Elt Bits) ℓ) : Prop :=
  ∀ c : Dev Cert.Kernel.nD,
    (Cert.Pre_words_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_words_in_vocab : Cert.Pre_words_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_words_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_words_in_vocab [hPre_words_in_vocab : Cert.Pre_words_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_words_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_words_in_vocab : Cert.Pre_words_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_words_in_vocab : Cert.Pre_words_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_words_in_vocab [hReferenceIdeal : Cert.ReferenceIdeal.Facts] [hPre_words_in_vocab : Cert.Pre_words_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_words_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_words_in_vocab : Cert.Pre_words_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_words_in_vocab : Cert.Pre_words_in_vocab.Facts),
    quiescent_Kernel (hKernel := hKernel) (hPre_words_in_vocab := hPre_words_in_vocab)
    ∧ quiescent_KernelIdeal (hKernelIdeal := hKernelIdeal) (hPre_words_in_vocab := hPre_words_in_vocab)
    ∧ quiescent_ReferenceIdeal (hReferenceIdeal := hReferenceIdeal)
    ∧ quiescent_ReferenceIdeal_pre_words_in_vocab (hReferenceIdeal := hReferenceIdeal) (hPre_words_in_vocab := hPre_words_in_vocab)
    ∧ preserves_Kernel_KernelIdeal
    ∧ algebraic_KernelIdeal_ReferenceIdeal (hKernelIdeal := hKernelIdeal) (hReferenceIdeal := hReferenceIdeal) (hPre_words_in_vocab := hPre_words_in_vocab)
-- ==== Pre_words_in_vocab.lean ====
abbrev S16384 : Shape := ⟨1, ![16384]⟩
abbrev S16384x64 : Shape := ⟨2, ![16384, 64]⟩
abbrev S100000x128 : Shape := ⟨2, ![100000, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn_part1 {F : FTy → Type} [FloatOps F] (main_arg2 : IVec S16384x64 32) (main_v14 : IVec S_ 1) (main_c_7 : IVec S_ 32) : IVec S_ 1 :=
  let main_v15 : IVec S16384x64 32 := broadcastInDim S16384x64 ![] bcast_S_S16384x64 main_c_7
  let main_v16 : IVec S16384x64 1 := cmpi .sge main_arg2 main_v15
  let main_c_8 : IVec S_ 1 := constantI S_ 1 1#1
  let main_v17 : IVec S_ 1 := (fun x v => Host.reduce IntOp.andi x v reducesTo_S16384x64_S_d0_1 h_S_) main_v16 main_c_8
  let main_v18 : IVec S_ 1 := andi main_v14 main_v17
  let main_c_9 : IVec S_ 32 := constantI S_ 32 100000#32
  let main_v19 : IVec S16384x64 32 := broadcastInDim S16384x64 ![] bcast_S_S16384x64 main_c_9
  let main_v20 : IVec S16384x64 1 := cmpi .slt main_arg2 main_v19
  let main_c_10 : IVec S_ 1 := constantI S_ 1 1#1
  let main_v21 : IVec S_ 1 := (fun x v => Host.reduce IntOp.andi x v reducesTo_S16384x64_S_d0_1 h_S_) main_v20 main_c_10
  let main_v22 : IVec S_ 1 := andi main_v18 main_v21
  main_v22

def fn {F : FTy → Type} [FloatOps F] (main_arg0 : IVec S16384 32) (main_arg1 : IVec S16384 32) (main_arg2 : IVec S16384x64 32) (main_arg3 : FVec F S100000x128 .f32) (main_arg4 : FVec F S100000x128 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  let main_c_7 : IVec S_ 32 := constantI S_ 32 0#32
  fn_part1 (F := F) main_arg2 main_v14 main_c_7
-- ==== Kernel.lean ====
abbrev S16384 : Shape := ⟨1, ![16384]⟩
abbrev S16384x64 : Shape := ⟨2, ![16384, 64]⟩
abbrev S100000x128 : Shape := ⟨2, ![100000, 128]⟩
abbrev S32x4x128 : Shape := ⟨3, ![32, 4, 128]⟩
abbrev S32x256x128 : Shape := ⟨3, ![32, 256, 128]⟩
abbrev S16384x128 : Shape := ⟨2, ![16384, 128]⟩
abbrev S1048576x128 : Shape := ⟨2, ![1048576, 128]⟩
abbrev S4x128 : Shape := ⟨2, ![4, 128]⟩
abbrev S256x128 : Shape := ⟨2, ![256, 128]⟩
abbrev S4x128x128 : Shape := ⟨3, ![4, 128, 128]⟩
abbrev S_ : Shape := ⟨0, ![]⟩
abbrev S1x4x128 : Shape := ⟨3, ![1, 4, 128]⟩
abbrev S1x256x128 : Shape := ⟨3, ![1, 256, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S16384x64x128 : Shape := ⟨3, ![16384, 64, 128]⟩

abbrev nBuf : Table → Nat
  | .hbm => 12
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384x64, .i32⟩
  | .hbm, ⟨3, _⟩ => ⟨S100000x128, .f32⟩
  | .hbm, ⟨4, _⟩ => ⟨S100000x128, .f32⟩
  | .hbm, ⟨5, _⟩ => ⟨S32x4x128, .i32⟩
  | .hbm, ⟨6, _⟩ => ⟨S32x4x128, .i32⟩
  | .hbm, ⟨7, _⟩ => ⟨S32x256x128, .i32⟩
  | .hbm, ⟨8, _⟩ => ⟨S16384x128, .f32⟩
  | .hbm, ⟨9, _⟩ => ⟨S16384x128, .f32⟩
  | .hbm, ⟨10, _⟩ => ⟨S1048576x128, .f32⟩
  | .hbm, ⟨11, _⟩ => ⟨S16384x64x128, .f32⟩
  | .local .scVector .vmem, ⟨0, _⟩ => ⟨S4x128, .i32⟩
  | .local .scVector .vmem, ⟨1, _⟩ => ⟨S4x128, .i32⟩
  | .local .scVector .vmem, ⟨2, _⟩ => ⟨S256x128, .i32⟩
  | .local .scVector .vmem, ⟨3, _⟩ => ⟨S4x128x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v0_scv : Ref sig .scVector := ⟨.hbm, 5, rfl⟩
abbrev main_v1_scv : Ref sig .scVector := ⟨.hbm, 6, rfl⟩
abbrev main_v2_scv : Ref sig .scVector := ⟨.hbm, 7, rfl⟩
abbrev main_arg3_scv : Ref sig .scVector := ⟨.hbm, 3, rfl⟩
abbrev main_arg4_scv : Ref sig .scVector := ⟨.hbm, 4, rfl⟩
abbrev main_v3_0_scv : Ref sig .scVector := ⟨.hbm, 8, rfl⟩
abbrev main_v3_1_scv : Ref sig .scVector := ⟨.hbm, 9, rfl⟩
abbrev main_v3_2_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_142_r0 : BitVec 32 := 0#32
  let c0_i32_143_r0 : BitVec 32 := 0#32
  ![v1.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_142_r2 : BitVec 32 := 0#32
  let c0_i32_143_r2 : BitVec 32 := 0#32
  ![v1.toNat, 0, 0]
def k0_off3 (i : grid0.Coords) (c0_i32_32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v27 : BitVec 32 := Scalar.muli v1 c4_i32
  let v28 : BitVec 32 := Scalar.addi v27 c0_i32_32
  let c128_i32 : BitVec 32 := 128#32
  let v29 : BitVec 32 := Scalar.muli v28 c128_i32
  let c0_i32_144_r3 : BitVec 32 := 0#32
  ![v29.toNat, 0]
@[reducible] def k0_t1_loop : Scf.Loop 32 :=
  let c0_i32_139 : BitVec 32 := 0#32
  let c64_i32 : BitVec 32 := 64#32
  let v107 : BitVec 32 := Scalar.addi c0_i32_139 c64_i32
  let c1_i32_140 : BitVec 32 := 1#32
  ⟨c0_i32_139, v107, c1_i32_140⟩
def k0_off4 (k0_t1 : Fin k0_t1_loop.trips) (c0_i32_144 : BitVec 32) : Fin 2 → Nat :=
  let c0_i32_143 : BitVec 32 := 0#32
  let c0_i32_139 : BitVec 32 := 0#32
  let c1_i32_140 : BitVec 32 := 1#32
  let arg18 : BitVec 32 := Scf.iv c0_i32_139 c1_i32_140 k0_t1
  let c4_i32_142 : BitVec 32 := 4#32
  let v108 : BitVec 32 := Scalar.muli arg18 c4_i32_142
  let v109 : BitVec 32 := Scalar.addi c0_i32_143 v108
  let v110 : BitVec 32 := Scalar.addi v109 c0_i32_144
  let c0_i32_148 : BitVec 32 := 0#32
  ![v110.toNat, 0]
def k0_off5 (i : grid0.Coords) (k0_t1 : Fin k0_t1_loop.trips) (c0_i32_178 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32768_i32 : BitVec 32 := 32768#32
  let v106 : BitVec 32 := Scalar.muli v1 c32768_i32
  let c0_i32_143 : BitVec 32 := 0#32
  let c0_i32_139 : BitVec 32 := 0#32
  let c1_i32_140 : BitVec 32 := 1#32
  let arg18 : BitVec 32 := Scf.iv c0_i32_139 c1_i32_140 k0_t1
  let c4_i32_142 : BitVec 32 := 4#32
  let v108 : BitVec 32 := Scalar.muli arg18 c4_i32_142
  let v109 : BitVec 32 := Scalar.addi c0_i32_143 v108
  let v139 : BitVec 32 := Scalar.addi v109 c0_i32_178
  let c128_i32_179 : BitVec 32 := 128#32
  let v140 : BitVec 32 := Scalar.muli v139 c128_i32_179
  let v141 : BitVec 32 := Scalar.addi v106 v140
  let c0_i32_210_r11 : BitVec 32 := 0#32
  ![v141.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S16384x64 : Shape := ⟨2, ![16384, 64]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩
abbrev S1048576 : Shape := ⟨1, ![1048576]⟩
abbrev S1048576x1 : Shape := ⟨2, ![1048576, 1]⟩
abbrev S1048576x128 : Shape := ⟨2, ![1048576, 128]⟩
abbrev S16384x64x128 : Shape := ⟨3, ![16384, 64, 128]⟩

abbrev nBuf : Space → Nat
  | .hbm => 76
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x64, .i32⟩
  | .hbm, ⟨3, _⟩ => ⟨S100000x128, .f32⟩
  | .hbm, ⟨4, _⟩ => ⟨S100000x128, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x128, .f32⟩
  | .hbm, ⟨24, _⟩ => ⟨S16384x128, .i1⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x128, .f32⟩
  | .hbm, ⟨47, _⟩ => ⟨S16384x128, .i1⟩
  | .hbm, ⟨48, _⟩ => ⟨S_, .f32⟩
  | .hbm, ⟨49, _⟩ => ⟨S16384x128, .f32⟩
  | .hbm, ⟨50, _⟩ => ⟨S16384x128, .f32⟩
  | .hbm, ⟨51, _⟩ => ⟨S1048576, .i32⟩
  | .hbm, ⟨52, _⟩ => ⟨S_, .i32⟩
  | .hbm, ⟨53, _⟩ => ⟨S1048576, .i32⟩
  | .hbm, ⟨54, _⟩ => ⟨S1048576, .i1⟩
  | .hbm, ⟨55, _⟩ => ⟨S_, .i32⟩
  | .hbm, ⟨56, _⟩ => ⟨S1048576, .i32⟩
  | .hbm, ⟨57, _⟩ => ⟨S1048576, .i32⟩
  | .hbm, ⟨58, _⟩ => ⟨S1048576, .i32⟩
  | .hbm, ⟨59, _⟩ => ⟨S1048576x1, .i32⟩
  | .hbm, ⟨60, _⟩ => ⟨S1, .i32⟩
  | .hbm, ⟨61, _⟩ => ⟨S_, .i32⟩
  | .hbm, ⟨62, _⟩ => ⟨S1048576x1, .i32⟩
  | .hbm, ⟨63, _⟩ => ⟨S1048576x1, .i1⟩
  | .hbm, ⟨64, _⟩ => ⟨S1x1, .i32⟩
  | .hbm, ⟨65, _⟩ => ⟨S1048576x1, .i32⟩
  | .hbm, ⟨66, _⟩ => ⟨S1048576x1, .i1⟩
  | .hbm, ⟨67, _⟩ => ⟨S1048576x1, .i1⟩
  | .hbm, ⟨68, _⟩ => ⟨S_, .i1⟩
  | .hbm, ⟨69, _⟩ => ⟨S1048576, .i1⟩
  | .hbm, ⟨70, _⟩ => ⟨S1048576x128, .f32⟩
  | .hbm, ⟨71, _⟩ => ⟨S1048576x128, .i1⟩
  | .hbm, ⟨72, _⟩ => ⟨S_, .f32⟩
  | .hbm, ⟨73, _⟩ => ⟨S1048576x128, .f32⟩
  | .hbm, ⟨74, _⟩ => ⟨S1048576x128, .f32⟩
  | .hbm, ⟨75, _⟩ => ⟨S16384x64x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v3 : Ref sig .tc := ⟨.hbm, 74, rfl⟩
abbrev main_v4 : Ref sig .tc := ⟨.hbm, 75, rfl⟩

abbrev nD : Nat := 1
abbrev τ : Topo := Topo.v7x

variable {F : FTy → Type} [FloatOps F]
-- ==== Proof.Views.lean ====
/-
  The tile's buffers, views and semaphores as the kernel names them, and the resource algebra its proof runs over.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program's procedures. -/
abbrev ΛP : Labels := Pipeline.Sig Λ₀ (Fin 0) fun p => (pcfgs (F := F) p).Adm
/-- The one SparseCore call. -/
abbrev K : SparseCore.Cfg τ sig (ΛP (F := F)) 1 := sc (F := F)
/-- The program's procedures. -/
abbrev D [FloatOps F] : Defs nD τ sig (Elt F) (ΛP (F := F)) := Pipeline.defs pcfgs defs₀
/-- No variants are used. -/
abbrev 𝒱₀ : Variants := Variants.none
/-- The variants, lifted to the call's labels. -/
abbrev 𝒱 : Variants := 𝒱₀.lift
/-- The variant every proof stands at. -/
abbrev v₀ : 𝒱.V := Sum.inl none

/-- The handshakes' part of the resource algebra. -/
abbrev UH : Type := URounds (GSem nD τ sig) ℕ
/-- The certificate's own algebra: the launch handshakes' rounds and the transfers' counters. -/
abbrev UU : Type := UH × Counters

/-- Where the handshakes' part sits in the whole algebra. -/
abbrev EH : Emb UH (MT nD τ sig (HIx 1) (Elt F) ℕ UU ℕ) := embL

/-! ## The tile -/

/-- The SparseCore at a grid point. -/
abbrev cV (L : grid0.Coords) : Fin τ.nSC := (L 0).castLE hcore0
/-- The tile, within its SparseCore, at a grid point. -/
abbrev jV (L : grid0.Coords) : Fin τ.nSub := (L 1).castLE hsub0
/-- The vector subcore that grid point `L` runs on. -/
abbrev thr (d : Dev nD) (L : grid0.Coords) : Thread nD τ := V d (cV L) (jV L)

/-! ## The memrefs of the call -/

/-- The input words, laid out by tile. -/
abbrev mA : Memref sig .scVector .hbm S32x4x128 .i32 := Memref.whole main_v0_scv
/-- The output words, laid out by tile. -/
abbrev mB : Memref sig .scVector .hbm S32x4x128 .i32 := Memref.whole main_v1_scv
/-- The noise words, laid out by tile. -/
abbrev mN : Memref sig .scVector .hbm S32x256x128 .i32 := Memref.whole main_v2_scv
/-- The first table. -/
abbrev mT : Memref sig .scVector .hbm S100000x128 .f32 := Memref.whole main_arg3_scv
/-- The second table. -/
abbrev mU : Memref sig .scVector .hbm S100000x128 .f32 := Memref.whole main_arg4_scv
/-- The first result. -/
abbrev mX : Memref sig .scVector .hbm S16384x128 .f32 := Memref.whole main_v3_0_scv
/-- The second result. -/
abbrev mY : Memref sig .scVector .hbm S16384x128 .f32 := Memref.whole main_v3_1_scv
/-- The third result. -/
abbrev mZ : Memref sig .scVector .hbm S1048576x128 .f32 := Memref.whole main_v3_2_scv
/-- The tile's buffer for the input words. -/
abbrev sA : Memref sig .scVector .vmem S4x128 .i32 := Memref.whole cc0_scratch0
/-- The tile's buffer for the output words. -/
abbrev sB : Memref sig .scVector .vmem S4x128 .i32 := Memref.whole cc0_scratch1
/-- The tile's buffer for the noise words. -/
abbrev sN : Memref sig .scVector .vmem S256x128 .i32 := Memref.whole cc0_scratch2
/-- The tile's row buffer of four slots. -/
abbrev sR : Memref sig .scVector .vmem S4x128x128 .f32 := Memref.whole cc0_scratch3

/-- Slot `o 0` of the row buffer. -/
abbrev slot (o : Fin 3 → ℕ) (h : ∀ a, o a + S1x128x128.size a ≤ S4x128x128.size a) : Memref sig .scVector .vmem S128x128 .f32 :=
  ((sR).slice (Rect.unit (s := S4x128x128) o S1x128x128.size h) (fun _ => rfl)).squeeze S128x128 squeezes_S1x128x128_S128x128
/-- The whole of a table, as a gather names it. -/
abbrev tab (m : Memref sig .scVector .hbm S100000x128 .f32) : Memref sig .scVector .hbm S100000x128 .f32 :=
  m.slice (Rect.unit (s := S100000x128) ![0, 0] S100000x128.size inb_S100000x128_S100000x128_0_0) (fun _ => rfl)
/-- A row of the long index list. -/
abbrev rowN (o : Fin 2 → ℕ) (h : ∀ a, o a + S1x128.size a ≤ S256x128.size a) : Memref sig .scVector .vmem S128 .i32 :=
  ((sN).slice (Rect.unit (s := S256x128) o S1x128.size h) (fun _ => rfl)).squeeze S128 squeezes_S1x128_S128
/-- A row of one of the two short index lists. -/
abbrev rowS (m : Memref sig .scVector .vmem S4x128 .i32) (o : Fin 2 → ℕ) (h : ∀ a, o a + S1x128.size a ≤ S4x128.size a) :
    Memref sig .scVector .vmem S128 .i32 :=
  (m.slice (Rect.unit (s := S4x128) o S1x128.size h) (fun _ => rfl)).squeeze S128 squeezes_S1x128_S128
/-- 128 rows of the long result. -/
abbrev outZ (o : Fin 2 → ℕ) (h : ∀ a, o a + S128x128.size a ≤ S1048576x128.size a) : Memref sig .scVector .hbm S128x128 .f32 :=
  (mZ).slice (Rect.unit (s := S1048576x128) o S128x128.size h) (fun _ => rfl)
/-- 128 rows of one of the two short results. -/
abbrev outS (m : Memref sig .scVector .hbm S16384x128 .f32) (o : Fin 2 → ℕ) (h : ∀ a, o a + S128x128.size a ≤ S16384x128.size a) :
    Memref sig .scVector .hbm S128x128 .f32 :=
  m.slice (Rect.unit (s := S16384x128) o S128x128.size h) (fun _ => rfl)

end Cert.Proof.Rows

end
-- ==== Proof.Values.lean ====
/-
  What the gathers bring: rows of a table named by the words of an index list, and the contents each written window ends with.
-/
module

public import proofs.«01_k».proof.Proof.Views
public import Idealize.ShloMosaic.Lib.ViewIndex

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws

variable {F : FTy → Type}

local notation "𝕄" => MT nD τ sig (HIx 1) (Elt F) ℕ UU ℕ

/-! ## Indices -/

/-- The index of lane `k` of a list row. -/
def ix1 (k : Fin 128) : S128.Idx := fun | 0 => k
/-- The index of row `r` of a table and lane `l`; a row past the end wraps round. -/
def ixT (r : ℕ) (l : Fin 128) : S100000x128.Idx := fun | 0 => ⟨r % 100000, Nat.mod_lt _ (by decide)⟩ | 1 => l

/-- The table's entry at the row a word names, at lane `l`. -/
def tabAt (tb : S100000x128.Idx → Elt F .f32) (w : BitVec 32) (l : Fin 128) : Elt F .f32 := tb (ixT w.toNat l)

/-- The index at a position of a one-axis array of 128 is the position. -/
theorem rowMajor_symm_S128 (n : Fin S128.numel) (k : Fin 128) (h : k.val = n.val) : S128.rowMajor.symm n = ix1 k := by
  rw [Equiv.symm_apply_eq]
  exact Fin.ext ((Shape.rowMajor_val_one (d := ![128]) (ix1 k)).trans h).symm

/-- A coordinate of a block's element, of the block's offset and the element's own coordinate. -/
theorem unit_emb_val {s : Shape} (o size : Fin s.rank → ℕ) (h : ∀ a, o a + size a ≤ s.size a) (y : (Rect.unit (s := s) o size h).shape.Idx) (a : Fin s.rank) :
    ((Rect.unit (s := s) o size h).emb y a).val = o a + (y a).val := by
  rw [Rect.emb_apply]
  simp [Rect.unit]

/-- A gather reads the whole table. -/
theorem tab_emb (m : Memref sig .scVector .hbm S100000x128 .f32) (f : m.view.ty.Contents (Elt F)) :
    (tab m).view.read (Elt F) f = m.view.read (Elt F) f := by
  funext x
  have : (Rect.unit (s := S100000x128) ![0, 0] S100000x128.size inb_S100000x128_S100000x128_0_0).emb x = x := by
    funext a
    apply Fin.ext
    match a with
    | 0 => exact (Rect.emb_apply ..).trans (by simp [Rect.unit])
    | 1 => exact (Rect.emb_apply ..).trans (by simp [Rect.unit])
  change m.view.read (Elt F) f ((Rect.unit (s := S100000x128) ![0, 0] S100000x128.size inb_S100000x128_S100000x128_0_0).emb x) = _
  rw [this]

/-- What a gather of a whole table by a list of words in range brings: at row `k`, lane `l`, the table at the row the list's word `k` names. -/
theorem gathered (tb : S100000x128.Idx → Elt F .f32) (g : S100000x128.Idx → Elt F .f32) (hg : g = tb) (words : S128.Idx → Elt F .i32)
    (hn : S128.numel = S128x128.size gathers_S100000x128_S128x128.axis') (hin : ∀ x, (words x).toNat < S100000x128.size gathers_S100000x128_S128x128.axis)
    (y : S128x128.Idx) :
    SparseCore.gatherPayload gathers_S100000x128_S128x128 g (SparseCore.rows words hn hin) y = tabAt tb (words (ix1 (y 0))) (y 1) := by
  subst hg
  unfold SparseCore.gatherPayload tabAt
  congr 1
  funext a
  apply Fin.ext
  match a with
  | 0 =>
    have h := Shape.Gathers.idx_axis gathers_S100000x128_S128x128 (SparseCore.rows words hn hin) y
    refine (congrArg Fin.val h).trans ?_
    change (words (S128.rowMajor.symm ((y 0).cast hn.symm))).toNat = (words (ix1 (y 0))).toNat % 100000
    rw [show S128.rowMajor.symm ((y 0).cast hn.symm) = ix1 (y 0) from rowMajor_symm_S128 _ _ rfl]
    exact (Nat.mod_eq_of_lt (hin _)).symm
  | 1 => exact Shape.Gathers.idx_of_ne gathers_S100000x128_S128x128 (SparseCore.rows words hn hin) y 1 (by decide)

/-! ## A window written whole -/

/-- A window written whole holds what any contents reading the payload through it hold. -/
theorem landed {κ : Kind} {sp : Space} {s : Shape} {e : EltTy} (v : View sig κ sp s e) (c : Thread nD τ) (hc : c.2.kind = κ)
    (f G : v.ty.Contents (Elt F)) (w : s.Idx → Elt F e) (h : ∀ y, v.read (Elt F) G y = w y) :
    ∀ i ∈ v.set, v.writes (Elt F) f [⟨Rect.whole s, w⟩] i = G i := by
  intro i hi
  obtain ⟨y, -, rfl⟩ := Finset.mem_map.mp hi
  refine View.eq_of_read_eq (x := y) ?_
  rw [h y]
  exact congrFun (View.read_writes_whole v f w) y

/-- What leaves a slot that a gather from a table has filled, whatever it held before. -/
theorem delivered_from (m : Memref sig .scVector .hbm S100000x128 .f32) (g : m.view.ty.Contents (Elt F)) (tb : S100000x128.Idx → Elt F .f32)
    (hg : m.view.read (Elt F) g = tb) (o : Fin 3 → ℕ) (ho) (f : S4x128x128.Idx → Elt F .f32) (earlier : List (View.Piece (Elt F) S128x128 .f32))
    (words : S128.Idx → Elt F .i32) (hin : ∀ x, (words x).toNat < S100000x128.size gathers_S100000x128_S128x128.axis) (y : S128x128.Idx) :
    (slot o ho).view.read (Elt F) ((slot o ho).view.writes (Elt F) f (⟨Rect.whole S128x128,
      SparseCore.gatherPayload gathers_S100000x128_S128x128 ((tab m).view.read (Elt F) g) (SparseCore.rows words rfl hin)⟩ :: earlier)) y
      = tabAt tb (words (ix1 (y 0))) (y 1) :=
  (congrFun (View.read_writes_whole _ ((slot o ho).view.writes (Elt F) f earlier) _) y).trans
    (gathered tb _ ((tab_emb m g).trans hg) words rfl hin y)

/-- The same of a gather from the second table; -/
theorem delivered (tb : S100000x128.Idx → Elt F .f32) (o : Fin 3 → ℕ) (ho) (f : S4x128x128.Idx → Elt F .f32)
    (words : S128.Idx → Elt F .i32) (hin : ∀ x, (words x).toNat < S100000x128.size gathers_S100000x128_S128x128.axis) (y : S128x128.Idx)
    {earlier : List (View.Piece (Elt F) S128x128 .f32)} :
    (slot o ho).view.read (Elt F) ((slot o ho).view.writes (Elt F) f (⟨Rect.whole S128x128,
      SparseCore.gatherPayload gathers_S100000x128_S128x128 ((tab mU).view.read (Elt F) tb) (SparseCore.rows words rfl hin)⟩ :: earlier)) y
      = tabAt tb (words (ix1 (y 0))) (y 1) := delivered_from mU tb tb rfl o ho f earlier words hin y

/-- and from the first. -/
theorem deliveredT (tb : S100000x128.Idx → Elt F .f32) (o : Fin 3 → ℕ) (ho) (f : S4x128x128.Idx → Elt F .f32)
    (words : S128.Idx → Elt F .i32) (hin : ∀ x, (words x).toNat < S100000x128.size gathers_S100000x128_S128x128.axis) (y : S128x128.Idx)
    {earlier : List (View.Piece (Elt F) S128x128 .f32)} :
    (slot o ho).view.read (Elt F) ((slot o ho).view.writes (Elt F) f (⟨Rect.whole S128x128,
      SparseCore.gatherPayload gathers_S100000x128_S128x128 ((tab mT).view.read (Elt F) tb) (SparseCore.rows words rfl hin)⟩ :: earlier)) y
      = tabAt tb (words (ix1 (y 0))) (y 1) := delivered_from mT tb tb rfl o ho f earlier words hin y

end Cert.Proof.Rows

end
-- ==== Proof.Lend.lean ====
/-
  Dividing what a tile holds: four read tokens of an array, four rows of a list each at its own token, the row buffer's four slots.
-/
module

public import proofs.«01_k».proof.Proof.Values

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- A view's own elements held by the tile. -/
abbrev own (d : Dev nD) (L : grid0.Coords) {sp : Space} {s : Shape} {e : EltTy} (m : Memref sig .scVector sp s e) (q : PosShare TreeShare)
    (f : Buf (Elt F) (m.view.loc (thr d L))) : sProp 𝕄 := m.view.loc (thr d L) ↦[m.view.set]{q} f

/-- A DMA semaphore of the tile at zero. -/
abbrev sem0 (d : Dev nD) (L : grid0.Coords) (s : DmaSems sig S_) : sProp 𝕄 := semVal ((thr d L), SemLoc.dma s.sem) 0

/-- A resource for each of four indices, written out. -/
theorem bigSep_fin_four (Φ : Fin 4 → sProp 𝕄) : bigSep Finset.univ Φ = iprop(Φ 0 ∗ Φ 1 ∗ Φ 2 ∗ Φ 3) := by
  rw [show (Finset.univ : Finset (Fin 4)) = {0, 1, 2, 3} by decide, bigSep_insert (by decide), bigSep_insert (by decide), bigSep_insert (by decide),
    bigSep_singleton]
  rfl

variable {ℓ : Loc nD τ sig}

/-- What is left of an array of which four read tokens are lent. -/
abbrev rest4 (ℓ : Loc nD τ sig) (q : PosShare TreeShare) (f : Buf (Elt F) ℓ) : sProp 𝕄 := ℓ ↦{Transfers.shareDrop q 4} f
/-- Read token `i` of an array. -/
abbrev tok (ℓ : Loc nD τ sig) (q : PosShare TreeShare) (f : Buf (Elt F) ℓ) (i : ℕ) : sProp 𝕄 := ℓ ↦{Transfers.shareTokN q i} f

/-- An array is four read tokens and the rest. -/
theorem toks4 (q : PosShare TreeShare) (f : Buf (Elt F) ℓ) :
    (ℓ ↦{q} f : sProp 𝕄) ⊣⊢ iprop(rest4 ℓ q f ∗ tok ℓ q f 0 ∗ tok ℓ q f 1 ∗ tok ℓ q f 2 ∗ tok ℓ q f 3) := by
  have h := Transfers.pointsTo_toks (nD := nD) (τ := τ) (sig := sig) (Ix := HIx 1) (Val := Elt F) (Name := ℕ) (U := UU) (Lvl := ℕ)
    (ℓ := ℓ) (S := Finset.univ) (f := f) q 4
  rw [bigSep_fin_four] at h
  exact h

/-- What is left of a list of which four rows are lent, each at a token of its own. -/
abbrev spare (ℓ : Loc nD τ sig) (q : PosShare TreeShare) (f : Buf (Elt F) ℓ) (r0 r1 r2 r3 : Finset (Idx ℓ)) : sProp 𝕄 :=
  iprop(rest4 ℓ q f ∗ (ℓ ↦[Finset.univ \ r0]{Transfers.shareTokN q 0} f) ∗ (ℓ ↦[Finset.univ \ r1]{Transfers.shareTokN q 1} f)
    ∗ (ℓ ↦[Finset.univ \ r2]{Transfers.shareTokN q 2} f) ∗ (ℓ ↦[Finset.univ \ r3]{Transfers.shareTokN q 3} f))

/-- Four rows of a list lent, each at a token of its own. -/
theorem lend4 (q : PosShare TreeShare) (f : Buf (Elt F) ℓ) (r0 r1 r2 r3 : Finset (Idx ℓ)) :
    (ℓ ↦{q} f : sProp 𝕄) ⊣⊢ iprop(spare ℓ q f r0 r1 r2 r3 ∗ (ℓ ↦[r0]{Transfers.shareTokN q 0} f) ∗ (ℓ ↦[r1]{Transfers.shareTokN q 1} f)
      ∗ (ℓ ↦[r2]{Transfers.shareTokN q 2} f) ∗ (ℓ ↦[r3]{Transfers.shareTokN q 3} f)) := by
  have s (n : ℕ) (S : Finset (Idx ℓ)) := pointsTo_split_subset (nD := nD) (τ := τ) (sig := sig) (Ix := HIx 1) (Val := Elt F) (Name := ℕ) (U := UU) (Lvl := ℕ)
    (ℓ := ℓ) (q := Transfers.shareTokN q n) (f := f) (Finset.subset_univ S)
  constructor
  · refine (toks4 q f).1.trans ?_
    iintro ⟨Hr, H0, H1, H2, H3⟩
    ihave H0 := (s 0 r0).1 $$ H0
    ihave H1 := (s 1 r1).1 $$ H1
    ihave H2 := (s 2 r2).1 $$ H2
    ihave H3 := (s 3 r3).1 $$ H3
    icases H0 with ⟨H0, G0⟩
    icases H1 with ⟨H1, G1⟩
    icases H2 with ⟨H2, G2⟩
    icases H3 with ⟨H3, G3⟩
    isplitl [Hr G0 G1 G2 G3]
    · isplitl [Hr]; · iexact Hr
      isplitl [G0]; · iexact G0
      isplitl [G1]; · iexact G1
      isplitl [G2] <;> iassumption
    isplitl [H0]; · iexact H0
    isplitl [H1]; · iexact H1
    isplitl [H2] <;> iassumption
  · refine .trans ?_ (toks4 q f).2
    iintro ⟨⟨Hr, G0, G1, G2, G3⟩, H0, H1, H2, H3⟩
    isplitl [Hr]; · iexact Hr
    isplitl [H0 G0]; · iapply (s 0 r0).2; isplitl [H0] <;> iassumption
    isplitl [H1 G1]; · iapply (s 1 r1).2; isplitl [H1] <;> iassumption
    isplitl [H2 G2]; · iapply (s 2 r2).2; isplitl [H2] <;> iassumption
    iapply (s 3 r3).2; isplitl [H3] <;> iassumption

/-! ## The four slots of the row buffer -/

/-- The `b`-th slot lies inside the row buffer. -/
theorem slot_inb (b : Fin 4) : ∀ a, (![b.val, 0, 0] : Fin 3 → ℕ) a + S1x128x128.size a ≤ S4x128x128.size a := by
  revert b; decide

/-- Slot `b`. -/
abbrev slotB (b : Fin 4) : Memref sig .scVector .vmem S128x128 .f32 := slot ![b.val, 0, 0] (slot_inb b)

/-- The elements of slot `b`. -/
abbrev slotSet (b : Fin 4) : Finset S4x128x128.Idx := (slotB b).view.set

/-- An index of the row buffer is in slot `b` exactly when its first coordinate is `b`. -/
theorem mem_slotB (b : Fin 4) (i : S4x128x128.Idx) : i ∈ slotSet b ↔ (i 0).val = b.val := by
  have e : slotSet b = (Rect.unit (s := S4x128x128) ![b.val, 0, 0] S1x128x128.size (slot_inb b)).set :=
    (View.set_reshape _ _).trans (View.set_slice_whole cc0_scratch3 _)
  rw [e, Rect.mem_set_unit]
  constructor
  · intro h
    have h0 := h 0
    simp at h0
    omega
  · intro h a
    have h1 : (i 1).val < 128 := (i 1).isLt
    have h2 : (i 2).val < 128 := (i 2).isLt
    match a with
    | 0 => simp; omega
    | 1 => simp; omega
    | 2 => simp; omega

/-- Different slots share no index. -/
theorem slots_disjoint : ∀ b ∈ (Finset.univ : Finset (Fin 4)), ∀ b' ∈ (Finset.univ : Finset (Fin 4)), b ≠ b' → Disjoint (slotSet b) (slotSet b') := by
  intro b _ b' _ h
  rw [Finset.disjoint_left]
  intro i hi hi'
  rw [mem_slotB] at hi hi'
  exact h (Fin.ext (hi.symm.trans hi'))

/-- The four slots make up the row buffer. -/
theorem slots_cover : (Finset.univ : Finset (Fin 4)).biUnion (fun b => slotSet b) = Finset.univ := by
  ext i
  simp only [Finset.mem_biUnion, Finset.mem_univ, true_and, iff_true]
  exact ⟨i 0, (mem_slotB _ i).2 rfl⟩

variable (d : Dev nD) (L : grid0.Coords)

/-- The row buffer is its four slots. -/
theorem slots_split (r : S4x128x128.Idx → Elt F .f32) :
    ((sR).view.loc (thr d L) ↦{fullShare} r : sProp 𝕄)
      = iprop(own d L (slot ![0, 0, 0] inb_S4x128x128_S1x128x128_0_0_0) fullShare r ∗ own d L (slot ![1, 0, 0] inb_S4x128x128_S1x128x128_1_0_0) fullShare r ∗ own d L (slot ![2, 0, 0] inb_S4x128x128_S1x128x128_2_0_0) fullShare r ∗ own d L (slot ![3, 0, 0] inb_S4x128x128_S1x128x128_3_0_0) fullShare r) := by
  refine Eq.trans ?_ (bigSep_fin_four (fun b => own d L (slotB b) fullShare r))
  refine Eq.trans ?_ (pointsTo_biUnion (ℓ := (sR).view.loc (thr d L)) (q := fullShare) (f := r) Finset.univ (fun b => slotSet b) slots_disjoint)
  rw [slots_cover]

/-- Four slots, whatever they hold, are the row buffer. -/
theorem slots_join :
    (iprop((∃ r, own d L (slot ![0, 0, 0] inb_S4x128x128_S1x128x128_0_0_0) fullShare r) ∗ (∃ r, own d L (slot ![1, 0, 0] inb_S4x128x128_S1x128x128_1_0_0) fullShare r) ∗ (∃ r, own d L (slot ![2, 0, 0] inb_S4x128x128_S1x128x128_2_0_0) fullShare r) ∗ (∃ r, own d L (slot ![3, 0, 0] inb_S4x128x128_S1x128x128_3_0_0) fullShare r)) : sProp 𝕄)
      ⊢ iprop(∃ r, (sR).view.loc (thr d L) ↦{fullShare} r) := by
  iintro ⟨⟨%r0, H0⟩, ⟨%r1, H1⟩, ⟨%r2, H2⟩, ⟨%r3, H3⟩⟩
  let rs : Fin 4 → S4x128x128.Idx → Elt F .f32 := fun | 0 => r0 | 1 => r1 | 2 => r2 | 3 => r3
  ihave H := ((Entails.of_eq (bigSep_fin_four (fun b => own d L (slotB b) fullShare (rs b))).symm).trans
    (pointsTo_biUnion_join (ℓ := (sR).view.loc (thr d L)) (q := fullShare) (Val := Elt F) Finset.univ (fun b => slotSet b) rs r0 slots_disjoint)) $$ [H0 H1 H2 H3]
  · isplitl [H0]; · iexact H0
    isplitl [H1]; · iexact H1
    isplitl [H2]; · iexact H2
    iexact H3
  icases H with ⟨%g, %_, H⟩
  iexists g
  rw [slots_cover]
  iexact H

end Cert.Proof.Rows

end
-- ==== Proof.Trip.lean ====
/-
  One trip of the tile's loop: four rows of the long list gathered and written to the result.
-/
module

public import proofs.«01_k».proof.Proof.Lend

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

set_option maxHeartbeats 4000000 in
/-- One trip of the loop: four gathers started, then each waited for and its slot copied to its window of the result. -/
theorem trip (t : Fin k0_t1_loop.trips) (v106 : BitVec 32) (q qn : PosShare TreeShare)
    (fN : S256x128.Idx → Elt F .i32) (tb : S100000x128.Idx → Elt F .f32)
    (z : S1048576x128.Idx → Elt F .f32) (r0 r1 r2 r3 : S4x128x128.Idx → Elt F .f32)
    (O : CellTallies nD τ sig (HIx 1)) (W : Waits sig (HIx 1))
    (Z : S1048576x128.Idx → Elt F .f32)
    (hZ : ∀ r : Fin 4, ∀ y, (outZ (k0_off5 L t (BitVec.ofNat 32 r.val)) (k0_off5_inb L t r)).view.read (Elt F) Z y
      = tabAt tb ((rowN (k0_off4 t (BitVec.ofNat 32 r.val)) (k0_off4_inb t r)).view.read (Elt F) fN (ix1 (y 0))) (y 1))
    (hin : ∀ o h x, ((rowN o h).view.read (Elt F) fN x).toNat < S100000x128.size gathers_S100000x128_S128x128.axis) :
    iprop(Transfers.MayWaits (thr d L) (default : HIx 1) O
        ∗ (mU.view.loc (thr d L) ↦{Transfers.shareTokN q 0} tb) ∗ (mU.view.loc (thr d L) ↦{Transfers.shareTokN q 1} tb)
        ∗ (mU.view.loc (thr d L) ↦{Transfers.shareTokN q 2} tb) ∗ (mU.view.loc (thr d L) ↦{Transfers.shareTokN q 3} tb)
        ∗ own d L (rowN (k0_off4 t 0#32) (k0_off4_inb t 0)) (Transfers.shareTokN qn 0) fN ∗ own d L (rowN (k0_off4 t 1#32) (k0_off4_inb t 1)) (Transfers.shareTokN qn 1) fN
        ∗ own d L (rowN (k0_off4 t 2#32) (k0_off4_inb t 2)) (Transfers.shareTokN qn 2) fN ∗ own d L (rowN (k0_off4 t 3#32) (k0_off4_inb t 3)) (Transfers.shareTokN qn 3) fN
        ∗ own d L (slot ![0, 0, 0] inb_S4x128x128_S1x128x128_0_0_0) fullShare r0 ∗ own d L (slot ![1, 0, 0] inb_S4x128x128_S1x128x128_1_0_0) fullShare r1
        ∗ own d L (slot ![2, 0, 0] inb_S4x128x128_S1x128x128_2_0_0) fullShare r2 ∗ own d L (slot ![3, 0, 0] inb_S4x128x128_S1x128x128_3_0_0) fullShare r3
        ∗ own d L (outZ (k0_off5 L t 0#32) (k0_off5_inb L t 0)) fullShare z ∗ own d L (outZ (k0_off5 L t 1#32) (k0_off5_inb L t 1)) fullShare z
        ∗ own d L (outZ (k0_off5 L t 2#32) (k0_off5_inb L t 2)) fullShare z ∗ own d L (outZ (k0_off5 L t 3#32) (k0_off5_inb L t 3)) fullShare z
        ∗ sem0 d L cc0_scratch4 ∗ sem0 d L cc0_scratch5 ∗ sem0 d L cc0_scratch6 ∗ sem0 d L cc0_scratch7
        ∗ sem0 d L cc0_scoped11 ∗ sem0 d L cc0_scoped12 ∗ sem0 d L cc0_scoped13 ∗ sem0 d L cc0_scoped14
        ∗ owes (thr d L) O W)
      ⊢ wp frame (wpE (defs₀ (F := F)) 𝒱₀ (thr d L) none) Set.univ
          (k0_t1_body L mA (Memref.isWhole_whole _) mB (Memref.isWhole_whole _) mN (Memref.isWhole_whole _) mT (Memref.isWhole_whole _) mU (Memref.isWhole_whole _)
            mX (Memref.isWhole_whole _) mY (Memref.isWhole_whole _) mZ (Memref.isWhole_whole _) sA (Memref.isWhole_whole _) sB (Memref.isWhole_whole _)
            sN (Memref.isWhole_whole _) sR (Memref.isWhole_whole _) cc0_scratch4 cc0_scratch5 cc0_scratch6 cc0_scratch7
            cc0_scoped0 cc0_scoped1 cc0_scoped2 cc0_scoped3 cc0_scoped4 cc0_scoped5 cc0_scoped6 cc0_scoped7 cc0_scoped8 cc0_scoped9 cc0_scoped10
            cc0_scoped11 cc0_scoped12 cc0_scoped13 cc0_scoped14 v106 t ())
          fun _ => iprop((mU.view.loc (thr d L) ↦{Transfers.shareTokN q 0} tb) ∗ (mU.view.loc (thr d L) ↦{Transfers.shareTokN q 1} tb)
        ∗ (mU.view.loc (thr d L) ↦{Transfers.shareTokN q 2} tb) ∗ (mU.view.loc (thr d L) ↦{Transfers.shareTokN q 3} tb)
        ∗ own d L (rowN (k0_off4 t 0#32) (k0_off4_inb t 0)) (Transfers.shareTokN qn 0) fN ∗ own d L (rowN (k0_off4 t 1#32) (k0_off4_inb t 1)) (Transfers.shareTokN qn 1) fN
        ∗ own d L (rowN (k0_off4 t 2#32) (k0_off4_inb t 2)) (Transfers.shareTokN qn 2) fN ∗ own d L (rowN (k0_off4 t 3#32) (k0_off4_inb t 3)) (Transfers.shareTokN qn 3) fN
        ∗ (∃ r, own d L (slot ![0, 0, 0] inb_S4x128x128_S1x128x128_0_0_0) fullShare r) ∗ (∃ r, own d L (slot ![1, 0, 0] inb_S4x128x128_S1x128x128_1_0_0) fullShare r)
        ∗ (∃ r, own d L (slot ![2, 0, 0] inb_S4x128x128_S1x128x128_2_0_0) fullShare r) ∗ (∃ r, own d L (slot ![3, 0, 0] inb_S4x128x128_S1x128x128_3_0_0) fullShare r)
        ∗ own d L (outZ (k0_off5 L t 0#32) (k0_off5_inb L t 0)) fullShare Z ∗ own d L (outZ (k0_off5 L t 1#32) (k0_off5_inb L t 1)) fullShare Z
        ∗ own d L (outZ (k0_off5 L t 2#32) (k0_off5_inb L t 2)) fullShare Z ∗ own d L (outZ (k0_off5 L t 3#32) (k0_off5_inb L t 3)) fullShare Z
        ∗ sem0 d L cc0_scratch4 ∗ sem0 d L cc0_scratch5 ∗ sem0 d L cc0_scratch6 ∗ sem0 d L cc0_scratch7
        ∗ sem0 d L cc0_scoped11 ∗ sem0 d L cc0_scoped12 ∗ sem0 d L cc0_scoped13 ∗ sem0 d L cc0_scoped14
        ∗ ∃ W', ⌜∀ p ∈ W', p ∈ W ∨ p.2 = none⌝ ∗ owes (thr d L) O W') := by
  have hin0 := fun x => hin (k0_off4 t 0#32) (k0_off4_inb t 0) x
  have hin1 := fun x => hin (k0_off4 t 1#32) (k0_off4_inb t 1) x
  have hin2 := fun x => hin (k0_off4 t 2#32) (k0_off4_inb t 2) x
  have hin3 := fun x => hin (k0_off4 t 3#32) (k0_off4_inb t 3) x
  unfold k0_t1_body
  rw [k0_part4_eq_skeleton]
  unfold k0_part4_skel
  rw [k0_part1_eq_skeleton]
  simp -proj only [k0_part2_eq_skeleton, k0_part3_eq_skeleton]
  unfold k0_part1_skel k0_part2_skel k0_part3_skel
  iintro ⟨#Hmw, Ht0, Ht1, Ht2, Ht3, Hn0, Hn1, Hn2, Hn3, Hr0, Hr1, Hr2, Hr3, Hz0, Hz1, Hz2, Hz3, Hg0, Hg1, Hg2, Hg3, Hw0, Hw1, Hw2, Hw3, HO⟩
  sl_exec
  sl_step
  isplitl [Ht0]; · iexact Ht0
  isplitl [Ht1]; · iexact Ht1
  isplitl [Ht2]; · iexact Ht2
  isplitl [Ht3]; · iexact Ht3
  isplitl [Hn0]; · iexact Hn0
  isplitl [Hn1]; · iexact Hn1
  isplitl [Hn2]; · iexact Hn2
  isplitl [Hn3]; · iexact Hn3
  isplitl [Hr0]; · iexists _; iexact Hr0
  isplitl [Hr1]; · iexists _; iexact Hr1
  isplitl [Hr2]; · iexists _; iexact Hr2
  isplitl [Hr3]; · iexists _; iexact Hr3
  isplitl [Hz0]
  · iapply (Entails.of_eq (pointsTo_congr (landed _ (thr d L) rfl _ _ _ fun y => (hZ 0 y).trans (delivered tb _ _ _ _ _ y).symm))); iexact Hz0
  isplitl [Hz1]
  · iapply (Entails.of_eq (pointsTo_congr (landed _ (thr d L) rfl _ _ _ fun y => (hZ 1 y).trans (delivered tb _ _ _ _ _ y).symm))); iexact Hz1
  isplitl [Hz2]
  · iapply (Entails.of_eq (pointsTo_congr (landed _ (thr d L) rfl _ _ _ fun y => (hZ 2 y).trans (delivered tb _ _ _ _ _ y).symm))); iexact Hz2
  isplitl [Hz3]
  · iapply (Entails.of_eq (pointsTo_congr (landed _ (thr d L) rfl _ _ _ fun y => (hZ 3 y).trans (delivered tb _ _ _ _ _ y).symm))); iexact Hz3
  isplitl [Hg0]; · iexact Hg0
  isplitl [Hg1]; · iexact Hg1
  isplitl [Hg2]; · iexact Hg2
  isplitl [Hg3]; · iexact Hg3
  isplitl [Hw0]; · iexact Hw0
  isplitl [Hw1]; · iexact Hw1
  isplitl [Hw2]; · iexact Hw2
  isplitl [Hw3]; · iexact Hw3
  iexists _; isplitr
  swap; · iexact HO
  ipureintro; intro p hp
  simp only [Finset.mem_insert] at hp
  rcases hp with h | h | h | h | h | h | h | h | h
  iterate 8 · exact .inr (h ▸ rfl)
  exact .inl h

end Cert.Proof.Rows

end
-- ==== Proof.Lists.lean ====
/-
  A tile's three index lists, its windows of the results, and one trip of its loop with what the loop keeps.
-/
module

public import proofs.«01_k».proof.Proof.Trip

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.Rounds
open Idealize.ShloMosaic.Tactic
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-- The part of the first index array that the tile fetches. -/
abbrev srcA (L : grid0.Coords) : Memref sig .scVector .hbm S4x128 .i32 :=
  ((mA).slice (Rect.unit (s := S32x4x128) (k0_off1 L) S1x4x128.size (k0_off1_inb L)) (fun _ => rfl)).squeeze S4x128 squeezes_S1x4x128_S4x128
/-- The part of the second index array that the tile fetches. -/
abbrev srcB (L : grid0.Coords) : Memref sig .scVector .hbm S4x128 .i32 :=
  ((mB).slice (Rect.unit (s := S32x4x128) (k0_off1 L) S1x4x128.size (k0_off1_inb L)) (fun _ => rfl)).squeeze S4x128 squeezes_S1x4x128_S4x128
/-- The part of the third index array that the tile fetches. -/
abbrev srcN (L : grid0.Coords) : Memref sig .scVector .hbm S256x128 .i32 :=
  ((mN).slice (Rect.unit (s := S32x256x128) (k0_off2 L) S1x256x128.size (k0_off2_inb L)) (fun _ => rfl)).squeeze S256x128 squeezes_S1x256x128_S256x128

/-- The lists the tile works through, of the index arrays. -/
abbrev listA (L : grid0.Coords) (f : S32x4x128.Idx → Elt F .i32) : S4x128.Idx → Elt F .i32 := (srcA L).view.read (Elt F) f
/-- The tile's block of the second index array. -/
abbrev listB (L : grid0.Coords) (f : S32x4x128.Idx → Elt F .i32) : S4x128.Idx → Elt F .i32 := (srcB L).view.read (Elt F) f
/-- The tile's block of the third index array. -/
abbrev listN (L : grid0.Coords) (f : S32x256x128.Idx → Elt F .i32) : S256x128.Idx → Elt F .i32 := (srcN L).view.read (Elt F) f

/-- The four windows of the long result that trip `t` writes. -/
abbrev winsZ (t : Fin k0_t1_loop.trips) (z : S1048576x128.Idx → Elt F .f32) : sProp 𝕄 :=
  iprop(own d L (outZ (k0_off5 L t 0#32) (k0_off5_inb L t 0)) fullShare z
    ∗ own d L (outZ (k0_off5 L t 1#32) (k0_off5_inb L t 1)) fullShare z
    ∗ own d L (outZ (k0_off5 L t 2#32) (k0_off5_inb L t 2)) fullShare z
    ∗ own d L (outZ (k0_off5 L t 3#32) (k0_off5_inb L t 3)) fullShare z)
/-- The four windows of a short result that the tile writes. -/
abbrev winsS (m : Memref sig .scVector .hbm S16384x128 .f32) (z : Buf (Elt F) (m.view.loc (thr d L))) : sProp 𝕄 :=
  iprop(own d L (outS m (k0_off3 L 0#32) (k0_off3_inb L 0)) fullShare z
    ∗ own d L (outS m (k0_off3 L 1#32) (k0_off3_inb L 1)) fullShare z
    ∗ own d L (outS m (k0_off3 L 2#32) (k0_off3_inb L 2)) fullShare z
    ∗ own d L (outS m (k0_off3 L 3#32) (k0_off3_inb L 3)) fullShare z)

/-- Equal contents are held alike. -/
theorem pointsTo_whole {ℓ : Loc nD τ sig} {q : PosShare TreeShare} {f g : Buf (Elt F) ℓ} (h : f = g) : (ℓ ↦{q} f : sProp 𝕄) = (ℓ ↦{q} g) := by rw [h]

/-- After its fetch the first list buffer holds the tile's block. -/
theorem landedA (g : Buf (Elt F) ((sA).view.loc (thr d L))) (f : S32x4x128.Idx → Elt F .i32) :
    View.write (Elt F) (sA).view g (listA L f) Finset.univ = listA L f := View.write_whole_univ cc0_scratch0 g (listA L f)
/-- After its fetch the second list buffer holds the tile's block. -/
theorem landedB (g : Buf (Elt F) ((sB).view.loc (thr d L))) (f : S32x4x128.Idx → Elt F .i32) :
    View.write (Elt F) (sB).view g (listB L f) Finset.univ = listB L f := View.write_whole_univ cc0_scratch1 g (listB L f)
/-- After its fetch the long list buffer holds the tile's block. -/
theorem landedN (g : Buf (Elt F) ((sN).view.loc (thr d L))) (f : S32x256x128.Idx → Elt F .i32) :
    View.write (Elt F) (sN).view g (listN L f) Finset.univ = listN L f := View.write_whole_univ cc0_scratch2 g (listN L f)

/-- The `b`-th row lies inside a short list buffer. -/
theorem rowS_inb (b : Fin 4) : ∀ a, (![b.val, 0] : Fin 2 → ℕ) a + S1x128.size a ≤ S4x128.size a := by revert b; decide

/-- The words of a short list are in range when those of the array it was fetched from are. -/
theorem listA_lt (f : S32x4x128.Idx → Elt F .i32) (h : ∀ i, (f i).toNat < 100000) (o ho x) :
    ((rowS sA o ho).view.read (Elt F) (listA L f) x).toNat < S100000x128.size gathers_S100000x128_S128x128.axis := h _
/-- Where every output word names a row of the table, so does every word of a row of the tile's list. -/
theorem listB_lt (f : S32x4x128.Idx → Elt F .i32) (h : ∀ i, (f i).toNat < 100000) (o ho x) :
    ((rowS sB o ho).view.read (Elt F) (listB L f) x).toNat < S100000x128.size gathers_S100000x128_S128x128.axis := h _
/-- Where every noise word names a row of the table, so does every word of a row of the tile's list. -/
theorem listN_lt (f : S32x256x128.Idx → Elt F .i32) (h : ∀ i, (f i).toNat < 100000) (o ho x) :
    ((rowN o ho).view.read (Elt F) (listN L f) x).toNat < S100000x128.size gathers_S100000x128_S128x128.axis := h _

/-- The four rows of a short list, lent each at a token of its own. -/
abbrev rowsS (m : Memref sig .scVector .vmem S4x128 .i32) (f : Buf (Elt F) (m.view.loc (thr d L))) : sProp 𝕄 :=
  iprop(own d L (rowS m ![0, 0] inb_S4x128_S1x128_0_0) (Transfers.shareTokN fullShare 0) f
    ∗ own d L (rowS m ![1, 0] inb_S4x128_S1x128_1_0) (Transfers.shareTokN fullShare 1) f
    ∗ own d L (rowS m ![2, 0] inb_S4x128_S1x128_2_0) (Transfers.shareTokN fullShare 2) f
    ∗ own d L (rowS m ![3, 0] inb_S4x128_S1x128_3_0) (Transfers.shareTokN fullShare 3) f)

/-- What stays of a short list of which the four rows are lent. -/
abbrev spareS (m : Memref sig .scVector .vmem S4x128 .i32) (f : Buf (Elt F) (m.view.loc (thr d L))) : sProp 𝕄 :=
  spare (m.view.loc (thr d L)) fullShare f (rowS m ![0, 0] inb_S4x128_S1x128_0_0).view.set (rowS m ![1, 0] inb_S4x128_S1x128_1_0).view.set
    (rowS m ![2, 0] inb_S4x128_S1x128_2_0).view.set (rowS m ![3, 0] inb_S4x128_S1x128_3_0).view.set

/-- A short list is its four rows, lent, and what stays. -/
theorem lendS (m : Memref sig .scVector .vmem S4x128 .i32) (f : Buf (Elt F) (m.view.loc (thr d L))) :
    (m.view.loc (thr d L) ↦{fullShare} f : sProp 𝕄) ⊣⊢ iprop(spareS d L m f ∗ rowsS d L m f) :=
  lend4 fullShare f _ _ _ _

/-- The four rows of the long list that a trip reads, each at a token of its own. -/
abbrev rowsN (t : Fin k0_t1_loop.trips) (f : S256x128.Idx → Elt F .i32) : sProp 𝕄 :=
  iprop(own d L (rowN (k0_off4 t 0#32) (k0_off4_inb t 0)) (Transfers.shareTokN fullShare 0) f
    ∗ own d L (rowN (k0_off4 t 1#32) (k0_off4_inb t 1)) (Transfers.shareTokN fullShare 1) f
    ∗ own d L (rowN (k0_off4 t 2#32) (k0_off4_inb t 2)) (Transfers.shareTokN fullShare 2) f
    ∗ own d L (rowN (k0_off4 t 3#32) (k0_off4_inb t 3)) (Transfers.shareTokN fullShare 3) f)

/-- What stays of the long list while a trip's four rows are lent. -/
abbrev spareN (t : Fin k0_t1_loop.trips) (f : S256x128.Idx → Elt F .i32) : sProp 𝕄 :=
  spare ((sN).view.loc (thr d L)) fullShare f (rowN (k0_off4 t 0#32) (k0_off4_inb t 0)).view.set (rowN (k0_off4 t 1#32) (k0_off4_inb t 1)).view.set
    (rowN (k0_off4 t 2#32) (k0_off4_inb t 2)).view.set (rowN (k0_off4 t 3#32) (k0_off4_inb t 3)).view.set

/-- A row of a list of 256 rows. -/
abbrev rowL (m : Memref sig .scVector .vmem S256x128 .i32) (o : Fin 2 → ℕ) (h : ∀ a, o a + S1x128.size a ≤ S256x128.size a) :
    Memref sig .scVector .vmem S128 .i32 :=
  (m.slice (Rect.unit (s := S256x128) o S1x128.size h) (fun _ => rfl)).squeeze S128 squeezes_S1x128_S128

/-- Such a list is any four of its rows, lent, and what stays. -/
theorem lend_rows (m : Memref sig .scVector .vmem S256x128 .i32) (o0 o1 o2 o3 : Fin 2 → ℕ) (h0 h1 h2 h3) (f : Buf (Elt F) (m.view.loc (thr d L))) :
    (m.view.loc (thr d L) ↦{fullShare} f : sProp 𝕄)
      ⊣⊢ iprop(spare (m.view.loc (thr d L)) fullShare f (rowL m o0 h0).view.set (rowL m o1 h1).view.set (rowL m o2 h2).view.set (rowL m o3 h3).view.set
        ∗ own d L (rowL m o0 h0) (Transfers.shareTokN fullShare 0) f ∗ own d L (rowL m o1 h1) (Transfers.shareTokN fullShare 1) f
        ∗ own d L (rowL m o2 h2) (Transfers.shareTokN fullShare 2) f ∗ own d L (rowL m o3 h3) (Transfers.shareTokN fullShare 3) f) :=
  lend4 fullShare f _ _ _ _

/-- The long list is the four rows a trip reads, lent, and what stays. -/
theorem lendN (t : Fin k0_t1_loop.trips) (f : S256x128.Idx → Elt F .i32) :
    ((sN).view.loc (thr d L) ↦{fullShare} f : sProp 𝕄) ⊣⊢ iprop(spareN d L t f ∗ rowsN d L t f) :=
  lend_rows d L sN (k0_off4 t 0#32) (k0_off4 t 1#32) (k0_off4 t 2#32) (k0_off4 t 3#32) (k0_off4_inb t 0) (k0_off4_inb t 1) (k0_off4_inb t 2) (k0_off4_inb t 3) f

/-- The four slots of the row buffer, whatever they hold. -/
abbrev slots4 : sProp 𝕄 :=
  iprop((∃ r, own d L (slot ![0, 0, 0] inb_S4x128x128_S1x128x128_0_0_0) fullShare r) ∗ (∃ r, own d L (slot ![1, 0, 0] inb_S4x128x128_S1x128x128_1_0_0) fullShare r)
    ∗ (∃ r, own d L (slot ![2, 0, 0] inb_S4x128x128_S1x128x128_2_0_0) fullShare r) ∗ (∃ r, own d L (slot ![3, 0, 0] inb_S4x128x128_S1x128x128_3_0_0) fullShare r))

/-- The four gather semaphores at zero. -/
abbrev semsG : sProp 𝕄 := iprop(sem0 d L cc0_scratch4 ∗ sem0 d L cc0_scratch5 ∗ sem0 d L cc0_scratch6 ∗ sem0 d L cc0_scratch7)
/-- The semaphores of a trip's copies out, at zero. -/
abbrev semsW : sProp 𝕄 := iprop(sem0 d L cc0_scoped11 ∗ sem0 d L cc0_scoped12 ∗ sem0 d L cc0_scoped13 ∗ sem0 d L cc0_scoped14)

/-- The read tokens of the second table. -/
abbrev toksU (q : PosShare TreeShare) (tb : S100000x128.Idx → Elt F .f32) : sProp 𝕄 :=
  iprop((mU.view.loc (thr d L) ↦{Transfers.shareTokN q 0} tb) ∗ (mU.view.loc (thr d L) ↦{Transfers.shareTokN q 1} tb)
    ∗ (mU.view.loc (thr d L) ↦{Transfers.shareTokN q 2} tb) ∗ (mU.view.loc (thr d L) ↦{Transfers.shareTokN q 3} tb))

/-- What the loop keeps before trip `k`: the tokens, the list, the slots, the long result's windows filled up to trip `k`, the semaphores at zero. -/
def inv (q : PosShare TreeShare) (fN : S256x128.Idx → Elt F .i32) (tb : S100000x128.Idx → Elt F .f32) (z Z : S1048576x128.Idx → Elt F .f32)
    (O : CellTallies nD τ sig (HIx 1)) (W : Waits sig (HIx 1)) (k : ℕ) (_ : PUnit) : sProp 𝕄 :=
  iprop(Transfers.MayWaits (thr d L) (default : HIx 1) O ∗ toksU d L q tb ∗ ((sN).view.loc (thr d L) ↦{fullShare} fN) ∗ slots4 d L
    ∗ (bigSep Finset.univ fun t : Fin k0_t1_loop.trips => winsZ d L t (if t.val < k then Z else z)) ∗ semsG d L ∗ semsW d L
    ∗ ∃ W', ⌜∀ p ∈ W', p ∈ W ∨ p.2 = none⌝ ∗ owes (thr d L) O W')

/-- Filling trip `k`'s windows moves the long result from `k` trips done to `k + 1`. -/
theorem winsZ_step (k : Fin k0_t1_loop.trips) (z Z : S1048576x128.Idx → Elt F .f32) :
    (bigSep (Finset.univ.erase k) fun t : Fin k0_t1_loop.trips => winsZ (F := F) d L t (if t.val < k.val then Z else z))
      = bigSep (Finset.univ.erase k) fun t : Fin k0_t1_loop.trips => winsZ d L t (if t.val < k.val + 1 then Z else z) := by
  refine bigSep_congr fun t ht => ?_
  have h : t.val ≠ k.val := fun e => (Finset.mem_erase.mp ht).1 (Fin.ext e)
  have : (t.val < k.val) = (t.val < k.val + 1) := propext (by omega)
  simp only [this]

set_option maxHeartbeats 1000000 in
/-- One trip carries the loop's invariant on. -/
theorem lap (q : PosShare TreeShare) (fN : S256x128.Idx → Elt F .i32) (tb : S100000x128.Idx → Elt F .f32) (z Z : S1048576x128.Idx → Elt F .f32)
    (O : CellTallies nD τ sig (HIx 1)) (W : Waits sig (HIx 1)) (k : Fin k0_t1_loop.trips) (v106 : BitVec 32)
    (hZ : ∀ r : Fin 4, ∀ y, (outZ (k0_off5 L k (BitVec.ofNat 32 r.val)) (k0_off5_inb L k r)).view.read (Elt F) Z y
      = tabAt tb ((rowN (k0_off4 k (BitVec.ofNat 32 r.val)) (k0_off4_inb k r)).view.read (Elt F) fN (ix1 (y 0))) (y 1))
    (hin : ∀ o h x, ((rowN o h).view.read (Elt F) fN x).toNat < S100000x128.size gathers_S100000x128_S128x128.axis) :
    inv d L q fN tb z Z O W k.val ⟨⟩
      ⊢ wp frame (wpE (defs₀ (F := F)) 𝒱₀ (thr d L) none) Set.univ
          (k0_t1_body L mA (Memref.isWhole_whole _) mB (Memref.isWhole_whole _) mN (Memref.isWhole_whole _) mT (Memref.isWhole_whole _) mU (Memref.isWhole_whole _)
            mX (Memref.isWhole_whole _) mY (Memref.isWhole_whole _) mZ (Memref.isWhole_whole _) sA (Memref.isWhole_whole _) sB (Memref.isWhole_whole _)
            sN (Memref.isWhole_whole _) sR (Memref.isWhole_whole _) cc0_scratch4 cc0_scratch5 cc0_scratch6 cc0_scratch7
            cc0_scoped0 cc0_scoped1 cc0_scoped2 cc0_scoped3 cc0_scoped4 cc0_scoped5 cc0_scoped6 cc0_scoped7 cc0_scoped8 cc0_scoped9 cc0_scoped10
            cc0_scoped11 cc0_scoped12 cc0_scoped13 cc0_scoped14 v106 k ())
          fun a => inv d L q fN tb z Z O W (k.val + 1) a := by
  unfold inv
  iintro ⟨#Hmw, ⟨Hu0, Hu1, Hu2, Hu3⟩, HsN, ⟨⟨%r0, Hr0⟩, ⟨%r1, Hr1⟩, ⟨%r2, Hr2⟩, ⟨%r3, Hr3⟩⟩, Hz, ⟨Hg0, Hg1, Hg2, Hg3⟩, ⟨Hw0, Hw1, Hw2, Hw3⟩, %W', %hW', HO⟩
  ihave HN4 := (lendN d L k fN).1 $$ HsN
  icases HN4 with ⟨HsN, Hn0, Hn1, Hn2, Hn3⟩
  ihave Hz' := (Entails.of_eq (bigSep_univ_at _ k)) $$ Hz
  icases Hz' with ⟨Hzk, Hz⟩
  ihave Hzk' := (Entails.of_eq (congrArg (winsZ (F := F) d L k) (if_neg (lt_irrefl k.val)))) $$ Hzk
  icases Hzk' with ⟨Hz0, Hz1, Hz2, Hz3⟩
  ihave Hz := (Entails.of_eq (winsZ_step d L k z Z)) $$ Hz
  iapply (wp_wand_r Idealize.ShloMosaic.frame (wpE (defs₀ (F := F)) 𝒱₀ (thr d L) none) Set.univ)
  isplitl [Hu0 Hu1 Hu2 Hu3 Hn0 Hn1 Hn2 Hn3 Hr0 Hr1 Hr2 Hr3 Hz0 Hz1 Hz2 Hz3 Hg0 Hg1 Hg2 Hg3 Hw0 Hw1 Hw2 Hw3 HO]
  · iapply (trip d L k v106 q fullShare fN tb z r0 r1 r2 r3 O W' Z hZ hin)
    isplitl []; · iexact Hmw
    isplitl [Hu0]; · iexact Hu0
    isplitl [Hu1]; · iexact Hu1
    isplitl [Hu2]; · iexact Hu2
    isplitl [Hu3]; · iexact Hu3
    isplitl [Hn0]; · iexact Hn0
    isplitl [Hn1]; · iexact Hn1
    isplitl [Hn2]; · iexact Hn2
    isplitl [Hn3]; · iexact Hn3
    isplitl [Hr0]; · iexact Hr0
    isplitl [Hr1]; · iexact Hr1
    isplitl [Hr2]; · iexact Hr2
    isplitl [Hr3]; · iexact Hr3
    isplitl [Hz0]; · iexact Hz0
    isplitl [Hz1]; · iexact Hz1
    isplitl [Hz2]; · iexact Hz2
    isplitl [Hz3]; · iexact Hz3
    isplitl [Hg0]; · iexact Hg0
    isplitl [Hg1]; · iexact Hg1
    isplitl [Hg2]; · iexact Hg2
    isplitl [Hg3]; · iexact Hg3
    isplitl [Hw0]; · iexact Hw0
    isplitl [Hw1]; · iexact Hw1
    isplitl [Hw2]; · iexact Hw2
    isplitl [Hw3]; · iexact Hw3
    iexact HO
  iintro %_ ⟨Hu0, Hu1, Hu2, Hu3, Hn0, Hn1, Hn2, Hn3, Hr0, Hr1, Hr2, Hr3, Hz0, Hz1, Hz2, Hz3, Hg0, Hg1, Hg2, Hg3, Hw0, Hw1, Hw2, Hw3, %W'', %hW'', HO⟩
  isplitl []; · iexact Hmw
  isplitl [Hu0 Hu1 Hu2 Hu3]
  · isplitl [Hu0]; · iexact Hu0
    isplitl [Hu1]; · iexact Hu1
    isplitl [Hu2]; · iexact Hu2
    iexact Hu3
  isplitl [HsN Hn0 Hn1 Hn2 Hn3]
  · iapply (lendN d L k fN).2
    isplitl [HsN]; · iexact HsN
    isplitl [Hn0]; · iexact Hn0
    isplitl [Hn1]; · iexact Hn1
    isplitl [Hn2]; · iexact Hn2
    iexact Hn3
  isplitl [Hr0 Hr1 Hr2 Hr3]
  · isplitl [Hr0]; · iexact Hr0
    isplitl [Hr1]; · iexact Hr1
    isplitl [Hr2]; · iexact Hr2
    iexact Hr3
  isplitl [Hz Hz0 Hz1 Hz2 Hz3]
  · iapply (Entails.of_eq (bigSep_univ_at _ k).symm)
    isplitl [Hz0 Hz1 Hz2 Hz3]
    · iapply (Entails.of_eq (congrArg (winsZ (F := F) d L k) (if_pos (Nat.lt_succ_self k.val)).symm))
      isplitl [Hz0]; · iexact Hz0
      isplitl [Hz1]; · iexact Hz1
      isplitl [Hz2]; · iexact Hz2
      iexact Hz3
    iexact Hz
  isplitl [Hg0 Hg1 Hg2 Hg3]
  · isplitl [Hg0]; · iexact Hg0
    isplitl [Hg1]; · iexact Hg1
    isplitl [Hg2]; · iexact Hg2
    iexact Hg3
  isplitl [Hw0 Hw1 Hw2 Hw3]
  · isplitl [Hw0]; · iexact Hw0
    isplitl [Hw1]; · iexact Hw1
    isplitl [Hw2]; · iexact Hw2
    iexact Hw3
  iexists W''; isplitr
  · ipureintro
    exact fun p hp => (hW'' p hp).elim (hW' p) .inr
  iexact HO

end Cert.Proof.Rows

end
-- ==== Proof.Arrays.lean ====
/-
  What the arrays hold: the index arrays after the reshapes, and the results, row by row, in terms of the arguments.
-/
module

public import proofs.«01_k».proof.Proof.Lists

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Index arrays -/

/-- A flat index array of 16384 words, as the 32 tiles' lists of four rows of 128. -/
def foldS (a : S16384.Idx → Elt F .i32) : S32x4x128.Idx → Elt F .i32 := shapeCast S32x4x128 a shapeCasts_S16384_S32x4x128
/-- The long index array, as the 32 tiles' lists of 256 rows of 128. -/
def foldN (a : S16384x64.Idx → Elt F .i32) : S32x256x128.Idx → Elt F .i32 := shapeCast S32x256x128 a shapeCasts_S16384x64_S32x256x128

/-- The reshaped short index array at `i` is the flat array at `i`'s row-major position. -/
theorem foldS_at (a : S16384.Idx → Elt F .i32) (i : S32x4x128.Idx) (k : S16384.Idx)
    (h : (k 0).val = ((i 0).val * 4 + (i 1).val) * 128 + (i 2).val) : foldS a i = a k :=
  congrArg a (Shape.reshapeEquiv_eq_of_rowMajor _ ((Shape.rowMajor_val_one (d := ![16384]) k).trans (h.trans (Shape.rowMajor_val_three (d := ![32, 4, 128]) i).symm)))

/-- The reshaped long index array at `i` is the two-axis array at the index of the same row-major position. -/
theorem foldN_at (a : S16384x64.Idx → Elt F .i32) (i : S32x256x128.Idx) (k : S16384x64.Idx)
    (h : (k 0).val * 64 + (k 1).val = ((i 0).val * 256 + (i 1).val) * 128 + (i 2).val) : foldN a i = a k :=
  congrArg a (Shape.reshapeEquiv_eq_of_rowMajor _ ((Shape.rowMajor_val_two (d := ![16384, 64]) k).trans (h.trans (Shape.rowMajor_val_three (d := ![32, 256, 128]) i).symm)))

/-! ## What a tile's lists hold -/

/-- An index of two axes, read as one of three with a leading axis of size one, keeps its coordinates after a leading zero. -/
theorem squeeze3 {n k : ℕ} (h : (⟨2, ![n, k]⟩ : Shape).numel = (⟨3, ![1, n, k]⟩ : Shape).numel) (y : (⟨2, ![n, k]⟩ : Shape).Idx) :
    (Shape.reshapeEquiv h y 0).val = 0 ∧ (Shape.reshapeEquiv h y 1).val = (y 0).val ∧ (Shape.reshapeEquiv h y 2).val = (y 1).val := by
  rw [show Shape.reshapeEquiv h y = Fin.cons ⟨0, Nat.one_pos⟩ y from Shape.reshapeEquiv_cons_one h y]
  exact ⟨rfl, rfl, rfl⟩

/-- An index of one axis, read as one of two with a leading axis of size one, keeps its coordinate after a leading zero. -/
theorem squeeze2 {n : ℕ} (h : (⟨1, ![n]⟩ : Shape).numel = (⟨2, ![1, n]⟩ : Shape).numel) (y : (⟨1, ![n]⟩ : Shape).Idx) :
    (Shape.reshapeEquiv h y 0).val = 0 ∧ (Shape.reshapeEquiv h y 1).val = (y 0).val := by
  rw [show Shape.reshapeEquiv h y = Fin.cons ⟨0, Nat.one_pos⟩ y from Shape.reshapeEquiv_cons_one h y]
  exact ⟨rfl, rfl⟩

/-- The tile's number: twice its subcore's, plus its SparseCore's. -/
abbrev tile (L : grid0.Coords) : ℕ := 2 * (L 1).val + (L 0).val

/-- An entry of the tile's first list is an entry of the first index array, in the tile's own block. -/
theorem listA_read (L : grid0.Coords) (f : S32x4x128.Idx → Elt F .i32) (y : S4x128.Idx) :
    ∃ i : S32x4x128.Idx, listA L f y = f i ∧ (i 0).val = tile L ∧ (i 1).val = (y 0).val ∧ (i 2).val = (y 1).val := by
  obtain ⟨h0, h1, h2⟩ := squeeze3 (n := 4) (k := 128) squeezes_S1x4x128_S4x128.numel_eq y
  refine ⟨(Rect.unit (s := S32x4x128) (k0_off1 L) S1x4x128.size (k0_off1_inb L)).emb (Shape.reshapeEquiv squeezes_S1x4x128_S4x128.numel_eq y), rfl, ?_, ?_, ?_⟩
  · exact (unit_emb_val _ _ _ _ 0).trans (congrArg₂ (· + ·) (congrFun (k0_off1_eq L) 0) h0 :)
  · exact (unit_emb_val _ _ _ _ 1).trans ((congrArg₂ (· + ·) (congrFun (k0_off1_eq L) 1) h1).trans (Nat.zero_add _))
  · exact (unit_emb_val _ _ _ _ 2).trans ((congrArg₂ (· + ·) (congrFun (k0_off1_eq L) 2) h2).trans (Nat.zero_add _))

/-- An entry of the tile's second list is an entry of the second index array, in the tile's own block. -/
theorem listB_read (L : grid0.Coords) (f : S32x4x128.Idx → Elt F .i32) (y : S4x128.Idx) :
    ∃ i : S32x4x128.Idx, listB L f y = f i ∧ (i 0).val = tile L ∧ (i 1).val = (y 0).val ∧ (i 2).val = (y 1).val := listA_read L f y

/-- An entry of the tile's long list is an entry of the third index array, in the tile's own block. -/
theorem listN_read (L : grid0.Coords) (f : S32x256x128.Idx → Elt F .i32) (y : S256x128.Idx) :
    ∃ i : S32x256x128.Idx, listN L f y = f i ∧ (i 0).val = tile L ∧ (i 1).val = (y 0).val ∧ (i 2).val = (y 1).val := by
  obtain ⟨h0, h1, h2⟩ := squeeze3 (n := 256) (k := 128) squeezes_S1x256x128_S256x128.numel_eq y
  refine ⟨(Rect.unit (s := S32x256x128) (k0_off2 L) S1x256x128.size (k0_off2_inb L)).emb (Shape.reshapeEquiv squeezes_S1x256x128_S256x128.numel_eq y), rfl, ?_, ?_, ?_⟩
  · exact (unit_emb_val _ _ _ _ 0).trans (congrArg₂ (· + ·) (congrFun (k0_off2_eq L) 0) h0 :)
  · exact (unit_emb_val _ _ _ _ 1).trans ((congrArg₂ (· + ·) (congrFun (k0_off2_eq L) 1) h1).trans (Nat.zero_add _))
  · exact (unit_emb_val _ _ _ _ 2).trans ((congrArg₂ (· + ·) (congrFun (k0_off2_eq L) 2) h2).trans (Nat.zero_add _))

/-- An entry of a row of the first list buffer is the buffer's entry at the row's offset. -/
theorem rowSA_read (o : Fin 2 → ℕ) (ho) (f : S4x128.Idx → Elt F .i32) (y : S128.Idx) :
    ∃ i : S4x128.Idx, (rowS sA o ho).view.read (Elt F) f y = f i ∧ (i 0).val = o 0 ∧ (i 1).val = o 1 + (y 0).val := by
  obtain ⟨h0, h1⟩ := squeeze2 (n := 128) squeezes_S1x128_S128.numel_eq y
  refine ⟨(Rect.unit (s := S4x128) o S1x128.size ho).emb (Shape.reshapeEquiv squeezes_S1x128_S128.numel_eq y), rfl, ?_, ?_⟩
  · exact (unit_emb_val _ _ _ _ 0).trans (congrArg (o 0 + ·) h0)
  · exact (unit_emb_val _ _ _ _ 1).trans (congrArg (o 1 + ·) h1)

/-- An entry of a row of the second list buffer is the buffer's entry at the row's offset. -/
theorem rowSB_read (o : Fin 2 → ℕ) (ho) (f : S4x128.Idx → Elt F .i32) (y : S128.Idx) :
    ∃ i : S4x128.Idx, (rowS sB o ho).view.read (Elt F) f y = f i ∧ (i 0).val = o 0 ∧ (i 1).val = o 1 + (y 0).val := rowSA_read o ho f y

/-- An entry of a row of the long list buffer is the buffer's entry at the row's offset. -/
theorem rowN_read (o : Fin 2 → ℕ) (ho) (f : S256x128.Idx → Elt F .i32) (y : S128.Idx) :
    ∃ i : S256x128.Idx, (rowN o ho).view.read (Elt F) f y = f i ∧ (i 0).val = o 0 ∧ (i 1).val = o 1 + (y 0).val := by
  obtain ⟨h0, h1⟩ := squeeze2 (n := 128) squeezes_S1x128_S128.numel_eq y
  refine ⟨(Rect.unit (s := S256x128) o S1x128.size ho).emb (Shape.reshapeEquiv squeezes_S1x128_S128.numel_eq y), rfl, ?_, ?_⟩
  · exact (unit_emb_val _ _ _ _ 0).trans (congrArg (o 0 + ·) h0)
  · exact (unit_emb_val _ _ _ _ 1).trans (congrArg (o 1 + ·) h1)

/-! ## The results -/

/-- A short result: row `k` is the table's row that word `k` names. -/
def takeS (tb : S100000x128.Idx → Elt F .f32) (a : S16384.Idx → Elt F .i32) : S16384x128.Idx → Elt F .f32 :=
  fun x => tabAt tb (a fun | 0 => x 0) (x 1)

/-- The index of a word of the long index array, of its place in row-major order. -/
def ixN (n : ℕ) (h : n < 1048576) : S16384x64.Idx := fun | 0 => ⟨n / 64, by change _ < 16384; omega⟩ | 1 => ⟨n % 64, Nat.mod_lt _ (by decide)⟩

/-- The long result: row `n` is the table's row that the `n`-th word names. -/
def takeN (tb : S100000x128.Idx → Elt F .f32) (a : S16384x64.Idx → Elt F .i32) : S1048576x128.Idx → Elt F .f32 :=
  fun x => tabAt tb (a (ixN (x 0).val (x 0).isLt)) (x 1)

/-- An entry of the tile's `r`-th window of the first result is the result's entry that many rows down. -/
theorem winX_read (L : grid0.Coords) (r : Fin 4) (X : S16384x128.Idx → Elt F .f32) (p : S128x128.Idx) :
    ∃ x : S16384x128.Idx, (outS mX (k0_off3 L (BitVec.ofNat 32 r.val)) (k0_off3_inb L r)).view.read (Elt F) X p = X x
      ∧ (x 0).val = 1024 * (L 1).val + 512 * (L 0).val + 128 * r.val + (p 0).val ∧ x 1 = p 1 := by
  refine ⟨(Rect.unit (s := S16384x128) (k0_off3 L (BitVec.ofNat 32 r.val)) S128x128.size (k0_off3_inb L r)).emb p, rfl, ?_, ?_⟩
  · exact (unit_emb_val _ _ _ _ 0).trans (congrArg (· + (p 0).val) (congrFun (k0_off3_eq L r) 0))
  · exact Fin.ext ((unit_emb_val _ _ _ _ 1).trans ((congrArg (· + (p 1).val) (congrFun (k0_off3_eq L r) 1)).trans (Nat.zero_add _)))

/-- An entry of the tile's `r`-th window of the second result is the result's entry that many rows down. -/
theorem winY_read (L : grid0.Coords) (r : Fin 4) (X : S16384x128.Idx → Elt F .f32) (p : S128x128.Idx) :
    ∃ x : S16384x128.Idx, (outS mY (k0_off3 L (BitVec.ofNat 32 r.val)) (k0_off3_inb L r)).view.read (Elt F) X p = X x
      ∧ (x 0).val = 1024 * (L 1).val + 512 * (L 0).val + 128 * r.val + (p 0).val ∧ x 1 = p 1 := winX_read L r X p

/-- An entry of the window of the third result that trip `t` writes from slot `r` is the result's entry that many rows down. -/
theorem winZ_read (L : grid0.Coords) (t : Fin k0_t1_loop.trips) (r : Fin 4) (Z : S1048576x128.Idx → Elt F .f32) (p : S128x128.Idx) :
    ∃ x : S1048576x128.Idx, (outZ (k0_off5 L t (BitVec.ofNat 32 r.val)) (k0_off5_inb L t r)).view.read (Elt F) Z p = Z x
      ∧ (x 0).val = 65536 * (L 1).val + 32768 * (L 0).val + 512 * t.val + 128 * r.val + (p 0).val ∧ x 1 = p 1 := by
  refine ⟨(Rect.unit (s := S1048576x128) (k0_off5 L t (BitVec.ofNat 32 r.val)) S128x128.size (k0_off5_inb L t r)).emb p, rfl, ?_, ?_⟩
  · exact (unit_emb_val _ _ _ _ 0).trans (congrArg (· + (p 0).val) (congrFun (k0_off5_eq L t r) 0))
  · exact Fin.ext ((unit_emb_val _ _ _ _ 1).trans ((congrArg (· + (p 1).val) (congrFun (k0_off5_eq L t r) 1)).trans (Nat.zero_add _)))

/-- The tile's windows of the first short result are what its four gathers bring, -/
theorem takeX (tb : S100000x128.Idx → Elt F .f32) (a : S16384.Idx → Elt F .i32) (L : grid0.Coords) (r : Fin 4) (p : S128x128.Idx) :
    (outS mX (k0_off3 L (BitVec.ofNat 32 r.val)) (k0_off3_inb L r)).view.read (Elt F) (takeS tb a) p
      = tabAt tb ((rowS sA ![r.val, 0] (rowS_inb r)).view.read (Elt F) (listA L (foldS a)) (ix1 (p 0))) (p 1) := by
  obtain ⟨x, hx, hx0, hx1⟩ := winX_read L r (takeS tb a) p
  obtain ⟨i, hi, hi0, hi1⟩ := rowSA_read ![r.val, 0] (rowS_inb r) (listA L (foldS a)) (ix1 (p 0))
  obtain ⟨j, hj, hj0, hj1, hj2⟩ := listA_read L (foldS a) i
  rw [hx, hi, hj, foldS_at a j (fun | 0 => x 0) ?_]
  · exact congrArg _ hx1
  · change (x 0).val = _
    change (i 0).val = r.val at hi0
    change (i 1).val = 0 + (p 0).val at hi1
    rw [hx0, hj0, hj1, hj2, hi0, hi1]; unfold tile; omega

/-- and of the second. -/
theorem takeY (tb : S100000x128.Idx → Elt F .f32) (a : S16384.Idx → Elt F .i32) (L : grid0.Coords) (r : Fin 4) (p : S128x128.Idx) :
    (outS mY (k0_off3 L (BitVec.ofNat 32 r.val)) (k0_off3_inb L r)).view.read (Elt F) (takeS tb a) p
      = tabAt tb ((rowS sB ![r.val, 0] (rowS_inb r)).view.read (Elt F) (listB L (foldS a)) (ix1 (p 0))) (p 1) := takeX tb a L r p

/-- A trip's windows of the long result are what its four gathers bring. -/
theorem takeZ (tb : S100000x128.Idx → Elt F .f32) (a : S16384x64.Idx → Elt F .i32) (L : grid0.Coords) (t : Fin k0_t1_loop.trips) (r : Fin 4) (p : S128x128.Idx) :
    (outZ (k0_off5 L t (BitVec.ofNat 32 r.val)) (k0_off5_inb L t r)).view.read (Elt F) (takeN tb a) p
      = tabAt tb ((rowN (k0_off4 t (BitVec.ofNat 32 r.val)) (k0_off4_inb t r)).view.read (Elt F) (listN L (foldN a)) (ix1 (p 0))) (p 1) := by
  obtain ⟨x, hx, hx0, hx1⟩ := winZ_read L t r (takeN tb a) p
  obtain ⟨i, hi, hi0, hi1⟩ := rowN_read (k0_off4 t (BitVec.ofNat 32 r.val)) (k0_off4_inb t r) (listN L (foldN a)) (ix1 (p 0))
  obtain ⟨j, hj, hj0, hj1, hj2⟩ := listN_read L (foldN a) i
  rw [hx, hi, hj, foldN_at a j (ixN (x 0).val (x 0).isLt) ?_]
  · exact congrArg _ hx1
  · change (x 0).val / 64 * 64 + (x 0).val % 64 = _
    rw [k0_off4_eq] at hi0 hi1
    change (i 0).val = 4 * t.val + r.val at hi0
    change (i 1).val = 0 + (p 0).val at hi1
    rw [Nat.div_add_mod', hx0, hj0, hj1, hj2, hi0, hi1]; unfold tile; omega

end Cert.Proof.Rows

end
-- ==== Proof.Split.lean ====
/-
  The call's operands, split over the thirty-two tiles: each input a share to every tile, each result its tiles' windows.
-/
module

public import proofs.«01_k».proof.Proof.Arrays

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The grid point of subcore `i` of SparseCore `c`. -/
abbrev pt (c : Fin 2) (i : Fin 16) : grid0.Coords := fun | 0 => c | 1 => i | ⟨_ + 2, h⟩ => absurd h (Nat.not_lt.2 (Nat.le_add_left _ _))

/-- The share of an input that the tile holds. -/
def shr (c : Fin 2) (i : Fin 16) : PosShare TreeShare := Transfers.dealOf (Transfers.dealOf fullShare Finset.univ c) Finset.univ i

/-- An array held whole is held at the tiles' shares. -/
theorem shares {ℓ : Loc nD τ sig} (f : Buf (Elt F) ℓ) :
    (ℓ ↦{fullShare} f : sProp 𝕄) = bigSep Finset.univ fun c : Fin 2 => bigSep Finset.univ fun i : Fin 16 => ℓ ↦{shr c i} f :=
  (Transfers.pointsTo_deal (ℓ := ℓ) (f := f) (S := Finset.univ) (Finset.univ : Finset (Fin 2)) ⟨0, Finset.mem_univ _⟩ fullShare).trans
    (bigSep_congr fun c _ => Transfers.pointsTo_deal (ℓ := ℓ) (f := f) (S := Finset.univ) (Finset.univ : Finset (Fin 16)) ⟨0, Finset.mem_univ _⟩ _)

/-! ## The short results -/

/-- The rows of a short result that copy `r` of a tile writes. -/
def setS (k : Fin 2 × Fin 16 × Fin 4) : Finset S16384x128.Idx :=
  (Rect.unit (s := S16384x128) (k0_off3 (pt k.1 k.2.1) (BitVec.ofNat 32 k.2.2.val)) S128x128.size (k0_off3_inb (pt k.1 k.2.1) k.2.2)).set

/-- An index is in a short result's window exactly when its row is one of the window's 128. -/
theorem mem_setS (k : Fin 2 × Fin 16 × Fin 4) (x : S16384x128.Idx) :
    x ∈ setS k ↔ 1024 * k.2.1.val + 512 * k.1.val + 128 * k.2.2.val ≤ (x 0).val ∧ (x 0).val < 1024 * k.2.1.val + 512 * k.1.val + 128 * k.2.2.val + 128 := by
  unfold setS
  rw [Rect.mem_set_unit, k0_off3_eq]
  constructor
  · exact fun h => h 0
  · intro h a
    match a with
    | 0 => exact h
    | 1 => exact ⟨Nat.zero_le _, lt_of_lt_of_eq (x 1).isLt (Nat.zero_add _).symm⟩

/-- Different windows of a short result share no index. -/
theorem setS_disjoint : ∀ k ∈ (Finset.univ : Finset (Fin 2 × Fin 16 × Fin 4)), ∀ k' ∈ (Finset.univ : Finset (Fin 2 × Fin 16 × Fin 4)), k ≠ k' → Disjoint (setS k) (setS k') := by
  rintro ⟨c, i, r⟩ - ⟨c', i', r'⟩ - h
  refine Finset.disjoint_left.mpr fun x hx hx' => h ?_
  have h1 := (mem_setS _ x).mp hx
  have h2 := (mem_setS _ x).mp hx'
  dsimp only at h1 h2
  have := c.isLt; have := c'.isLt; have := r.isLt; have := r'.isLt
  refine Prod.ext (Fin.ext ?_) (Prod.ext (Fin.ext ?_) (Fin.ext ?_)) <;> dsimp only <;> omega

/-- The windows make up a short result. -/
theorem setS_cover : (Finset.univ : Finset (Fin 2 × Fin 16 × Fin 4)).biUnion setS = Finset.univ := by
  refine Finset.eq_univ_of_forall fun x => Finset.mem_biUnion.mpr ?_
  have hx : (x 0).val < 16384 := (x 0).isLt
  refine ⟨⟨⟨(x 0).val / 512 % 2, by omega⟩, ⟨(x 0).val / 1024, by omega⟩, ⟨(x 0).val % 512 / 128, by omega⟩⟩, Finset.mem_univ _, (mem_setS _ x).mpr ?_⟩
  dsimp only
  omega

/-- The first short result held whole is its tiles' windows; -/
theorem splitX (d : Dev nD) (f : Buf (Elt F) ((SparseCore.T d).loc main_v3_0)) :
    ((SparseCore.T d).loc main_v3_0 ↦{fullShare} f : sProp 𝕄)
      = bigSep Finset.univ fun c : Fin 2 => bigSep Finset.univ fun i : Fin 16 => winsS d (pt c i) mX f := by
  have h : ((SparseCore.T d).loc main_v3_0 ↦{fullShare} f : sProp 𝕄) = bigSep Finset.univ fun k : Fin 2 × Fin 16 × Fin 4 => (SparseCore.T d).loc main_v3_0 ↦[setS k]{fullShare} f := by
    rw [← pointsTo_biUnion Finset.univ (ℓ := (SparseCore.T d).loc main_v3_0) setS setS_disjoint, setS_cover]; try rfl
  rw [h, bigSep_univ_prod]
  refine bigSep_congr fun c _ => ?_
  rw [bigSep_univ_prod]
  refine bigSep_congr fun i _ => ?_
  rw [bigSep_fin_four]
  unfold setS
  simp only [winsS, own, outS, mX, Memref.slice, Memref.whole, View.set_slice_whole]
  rfl
/-- and so is the second. -/
theorem splitY (d : Dev nD) (f : Buf (Elt F) ((SparseCore.T d).loc main_v3_1)) :
    ((SparseCore.T d).loc main_v3_1 ↦{fullShare} f : sProp 𝕄)
      = bigSep Finset.univ fun c : Fin 2 => bigSep Finset.univ fun i : Fin 16 => winsS d (pt c i) mY f := by
  have h : ((SparseCore.T d).loc main_v3_1 ↦{fullShare} f : sProp 𝕄) = bigSep Finset.univ fun k : Fin 2 × Fin 16 × Fin 4 => (SparseCore.T d).loc main_v3_1 ↦[setS k]{fullShare} f := by
    rw [← pointsTo_biUnion Finset.univ (ℓ := (SparseCore.T d).loc main_v3_1) setS setS_disjoint, setS_cover]; try rfl
  rw [h, bigSep_univ_prod]
  refine bigSep_congr fun c _ => ?_
  rw [bigSep_univ_prod]
  refine bigSep_congr fun i _ => ?_
  rw [bigSep_fin_four]
  unfold setS
  simp only [winsS, own, outS, mY, Memref.slice, Memref.whole, View.set_slice_whole]
  rfl

/-! ## The long result -/

/-- The rows of the long result that copy `r` of a tile's trip writes. -/
def setZ (k : Fin 2 × Fin 16 × Fin k0_t1_loop.trips × Fin 4) : Finset S1048576x128.Idx :=
  (Rect.unit (s := S1048576x128) (k0_off5 (pt k.1 k.2.1) k.2.2.1 (BitVec.ofNat 32 k.2.2.2.val)) S128x128.size (k0_off5_inb (pt k.1 k.2.1) k.2.2.1 k.2.2.2)).set

set_option maxRecDepth 16384 in
/-- The loop runs sixty-four trips. -/
theorem trips_eq : k0_t1_loop.trips = 64 := by decide

/-- An index is in a window of the long result exactly when its row is one of the window's 128. -/
theorem mem_setZ (k : Fin 2 × Fin 16 × Fin k0_t1_loop.trips × Fin 4) (x : S1048576x128.Idx) :
    x ∈ setZ k ↔ 65536 * k.2.1.val + 32768 * k.1.val + 512 * k.2.2.1.val + 128 * k.2.2.2.val ≤ (x 0).val
      ∧ (x 0).val < 65536 * k.2.1.val + 32768 * k.1.val + 512 * k.2.2.1.val + 128 * k.2.2.2.val + 128 := by
  unfold setZ
  rw [Rect.mem_set_unit, k0_off5_eq]
  constructor
  · exact fun h => h 0
  · intro h a
    match a with
    | 0 => exact h
    | 1 => exact ⟨Nat.zero_le _, lt_of_lt_of_eq (x 1).isLt (Nat.zero_add _).symm⟩

/-- Different windows of the long result share no index. -/
theorem setZ_disjoint : ∀ k ∈ (Finset.univ : Finset (Fin 2 × Fin 16 × Fin k0_t1_loop.trips × Fin 4)),
    ∀ k' ∈ (Finset.univ : Finset (Fin 2 × Fin 16 × Fin k0_t1_loop.trips × Fin 4)), k ≠ k' → Disjoint (setZ k) (setZ k') := by
  rintro ⟨c, i, t, r⟩ - ⟨c', i', t', r'⟩ - h
  refine Finset.disjoint_left.mpr fun x hx hx' => h ?_
  have h1 := (mem_setZ _ x).mp hx
  have h2 := (mem_setZ _ x).mp hx'
  dsimp only at h1 h2
  have ht : t.val < 64 := trips_eq ▸ t.isLt
  have ht' : t'.val < 64 := trips_eq ▸ t'.isLt
  have := c.isLt; have := c'.isLt; have := r.isLt; have := r'.isLt
  refine Prod.ext (Fin.ext ?_) (Prod.ext (Fin.ext ?_) (Prod.ext (Fin.ext ?_) (Fin.ext ?_))) <;> dsimp only <;> omega

/-- The windows make up the long result. -/
theorem setZ_cover : (Finset.univ : Finset (Fin 2 × Fin 16 × Fin k0_t1_loop.trips × Fin 4)).biUnion setZ = Finset.univ := by
  refine Finset.eq_univ_of_forall fun x => ?_
  rw [Finset.mem_biUnion]
  have hx : (x 0).val < 1048576 := (x 0).isLt
  refine ⟨⟨⟨(x 0).val / 32768 % 2, by omega⟩, ⟨(x 0).val / 65536, by omega⟩, ⟨(x 0).val % 32768 / 512, lt_of_lt_of_eq (by omega : (x 0).val % 32768 / 512 < 64) trips_eq.symm⟩, ⟨(x 0).val % 512 / 128, by omega⟩⟩,
    Finset.mem_univ _, (mem_setZ _ x).mpr ?_⟩
  dsimp only
  omega

/-- The long result held whole is its tiles' trips' windows. -/
theorem splitZ (d : Dev nD) (f : Buf (Elt F) ((SparseCore.T d).loc main_v3_2)) :
    ((SparseCore.T d).loc main_v3_2 ↦{fullShare} f : sProp 𝕄)
      = bigSep Finset.univ fun c : Fin 2 => bigSep Finset.univ fun i : Fin 16 => bigSep Finset.univ fun t => winsZ d (pt c i) t f := by
  have h : ((SparseCore.T d).loc main_v3_2 ↦{fullShare} f : sProp 𝕄)
      = bigSep Finset.univ fun k : Fin 2 × Fin 16 × Fin k0_t1_loop.trips × Fin 4 => (SparseCore.T d).loc main_v3_2 ↦[setZ k]{fullShare} f := by
    rw [← pointsTo_biUnion Finset.univ (ℓ := (SparseCore.T d).loc main_v3_2) setZ setZ_disjoint, setZ_cover]; try rfl
  rw [h, bigSep_univ_prod]
  refine bigSep_congr fun c _ => ?_
  rw [bigSep_univ_prod]
  refine bigSep_congr fun i _ => ?_
  rw [bigSep_univ_prod]
  refine bigSep_congr fun t _ => ?_
  rw [bigSep_fin_four]
  unfold setZ
  simp only [winsZ, own, outZ, mZ, Memref.slice, Memref.whole, View.set_slice_whole]
  rfl

/-! ## All the operands at once -/

/-- A tile's part of the call's operands: shares of the index arrays and the tables, its windows of the three results. -/
def part (d : Dev nD) (q : PosShare TreeShare) (L : grid0.Coords)
    (fA fB : S32x4x128.Idx → Elt F .i32) (fN : S32x256x128.Idx → Elt F .i32) (tT tU : S100000x128.Idx → Elt F .f32)
    (x y : S16384x128.Idx → Elt F .f32) (z : S1048576x128.Idx → Elt F .f32) : sProp 𝕄 :=
  iprop((mA.view.loc (thr d L) ↦{q} fA) ∗ (mB.view.loc (thr d L) ↦{q} fB) ∗ (mN.view.loc (thr d L) ↦{q} fN)
    ∗ (mT.view.loc (thr d L) ↦{q} tT) ∗ (mU.view.loc (thr d L) ↦{q} tU)
    ∗ winsS d L mX x ∗ winsS d L mY y ∗ (bigSep Finset.univ fun t => winsZ d L t z))

/-- A tile's part of the operands can be stored in a cell. -/
instance part_storable (d : Dev nD) (q L fA fB fN tT tU x y z) :
    BI.Storable (upEmb : UEmb _ 𝕄) (part (F := F) d q L fA fB fN tT tU x y z) := by
  unfold part; infer_instance

/-- The operands held whole. -/
def operands (d : Dev nD) (fA fB : S32x4x128.Idx → Elt F .i32) (fN : S32x256x128.Idx → Elt F .i32) (tT tU : S100000x128.Idx → Elt F .f32)
    (x y : S16384x128.Idx → Elt F .f32) (z : S1048576x128.Idx → Elt F .f32) : sProp 𝕄 :=
  iprop(((SparseCore.T d).loc main_v0 ↦{fullShare} fA) ∗ ((SparseCore.T d).loc main_v1 ↦{fullShare} fB) ∗ ((SparseCore.T d).loc main_v2 ↦{fullShare} fN)
    ∗ ((SparseCore.T d).loc main_arg3 ↦{fullShare} tT) ∗ ((SparseCore.T d).loc main_arg4 ↦{fullShare} tU)
    ∗ ((SparseCore.T d).loc main_v3_0 ↦{fullShare} x) ∗ ((SparseCore.T d).loc main_v3_1 ↦{fullShare} y) ∗ ((SparseCore.T d).loc main_v3_2 ↦{fullShare} z))

/-- Two resources, each split over the tiles, split over the tiles together. -/
theorem bigSep_sep2 {Φ Ψ : Fin 2 → Fin 16 → sProp 𝕄} {A B : sProp 𝕄} (hA : A = bigSep Finset.univ fun c => bigSep Finset.univ fun i => Φ c i)
    (hB : B = bigSep Finset.univ fun c => bigSep Finset.univ fun i => Ψ c i) :
    iprop(A ∗ B) = bigSep Finset.univ fun c => bigSep Finset.univ fun i => iprop(Φ c i ∗ Ψ c i) := by
  rw [hA, hB]
  exact ((bigSep_congr fun c _ => bigSep_sep' Finset.univ (Φ c) (Ψ c)).trans (bigSep_sep' Finset.univ _ _)).symm

/-- The first index array, whole, is one share of it to every tile. -/
theorem sharesA (d : Dev nD) (f : S32x4x128.Idx → Elt F .i32) :
    ((SparseCore.T d).loc main_v0 ↦{fullShare} f : sProp 𝕄)
      = bigSep Finset.univ fun c : Fin 2 => bigSep Finset.univ fun i : Fin 16 => mA.view.loc (thr d (pt c i)) ↦{shr c i} f :=
  shares (ℓ := (SparseCore.T d).loc main_v0) f
/-- The second index array, whole, is one share of it to every tile. -/
theorem sharesB (d : Dev nD) (f : S32x4x128.Idx → Elt F .i32) :
    ((SparseCore.T d).loc main_v1 ↦{fullShare} f : sProp 𝕄)
      = bigSep Finset.univ fun c : Fin 2 => bigSep Finset.univ fun i : Fin 16 => mB.view.loc (thr d (pt c i)) ↦{shr c i} f :=
  shares (ℓ := (SparseCore.T d).loc main_v1) f
/-- The third index array, whole, is one share of it to every tile. -/
theorem sharesN (d : Dev nD) (f : S32x256x128.Idx → Elt F .i32) :
    ((SparseCore.T d).loc main_v2 ↦{fullShare} f : sProp 𝕄)
      = bigSep Finset.univ fun c : Fin 2 => bigSep Finset.univ fun i : Fin 16 => mN.view.loc (thr d (pt c i)) ↦{shr c i} f :=
  shares (ℓ := (SparseCore.T d).loc main_v2) f
/-- The first table, whole, is one share of it to every tile. -/
theorem sharesT (d : Dev nD) (f : S100000x128.Idx → Elt F .f32) :
    ((SparseCore.T d).loc main_arg3 ↦{fullShare} f : sProp 𝕄)
      = bigSep Finset.univ fun c : Fin 2 => bigSep Finset.univ fun i : Fin 16 => mT.view.loc (thr d (pt c i)) ↦{shr c i} f :=
  shares (ℓ := (SparseCore.T d).loc main_arg3) f
/-- The second table, whole, is one share of it to every tile. -/
theorem sharesU (d : Dev nD) (f : S100000x128.Idx → Elt F .f32) :
    ((SparseCore.T d).loc main_arg4 ↦{fullShare} f : sProp 𝕄)
      = bigSep Finset.univ fun c : Fin 2 => bigSep Finset.univ fun i : Fin 16 => mU.view.loc (thr d (pt c i)) ↦{shr c i} f :=
  shares (ℓ := (SparseCore.T d).loc main_arg4) f

/-- The operands held whole are the tiles' parts of them. -/
theorem operands_parts (d : Dev nD) (fA fB : S32x4x128.Idx → Elt F .i32) (fN : S32x256x128.Idx → Elt F .i32) (tT tU : S100000x128.Idx → Elt F .f32)
    (x y : S16384x128.Idx → Elt F .f32) (z : S1048576x128.Idx → Elt F .f32) :
    (operands d fA fB fN tT tU x y z : sProp 𝕄)
      = bigSep Finset.univ fun c : Fin 2 => bigSep Finset.univ fun i : Fin 16 => part d (shr c i) (pt c i) fA fB fN tT tU x y z := by
  unfold operands part
  exact bigSep_sep2 (sharesA d fA) (bigSep_sep2 (sharesB d fB) (bigSep_sep2 (sharesN d fN) (bigSep_sep2 (sharesT d tT) (bigSep_sep2 (sharesU d tU)
    (bigSep_sep2 (splitX d x) (bigSep_sep2 (splitY d y) (splitZ d z)))))))

end Cert.Proof.Rows

end
-- ==== Proof.Tile.lean ====
/-
  One tile's run: the three lists fetched, the rows of the two short results, then the loop over the rows of the long one.
-/
module

public import proofs.«01_k».proof.Proof.Lists

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.ShloMosaic.Rounds
open Idealize.ShloMosaic.Tactic
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

set_option maxHeartbeats 8000000 in
/-- A tile's whole task, from its parts of the operands to the same parts with the result windows written. -/
theorem tile_run (q : PosShare TreeShare)
    (fA fB : S32x4x128.Idx → Elt F .i32) (fN : S32x256x128.Idx → Elt F .i32) (tT tU : S100000x128.Idx → Elt F .f32)
    (x y X Y : S16384x128.Idx → Elt F .f32) (z Z : S1048576x128.Idx → Elt F .f32)
    (O : CellTallies nD τ sig (HIx 1)) (W : Waits sig (HIx 1))
    (hX : ∀ r : Fin 4, ∀ p, (outS mX (k0_off3 L (BitVec.ofNat 32 r.val)) (k0_off3_inb L r)).view.read (Elt F) X p
      = tabAt tT ((rowS sA ![r.val, 0] (rowS_inb r)).view.read (Elt F) (listA L fA) (ix1 (p 0))) (p 1))
    (hY : ∀ r : Fin 4, ∀ p, (outS mY (k0_off3 L (BitVec.ofNat 32 r.val)) (k0_off3_inb L r)).view.read (Elt F) Y p
      = tabAt tU ((rowS sB ![r.val, 0] (rowS_inb r)).view.read (Elt F) (listB L fB) (ix1 (p 0))) (p 1))
    (hZ : ∀ (t : Fin k0_t1_loop.trips) (r : Fin 4), ∀ p, (outZ (k0_off5 L t (BitVec.ofNat 32 r.val)) (k0_off5_inb L t r)).view.read (Elt F) Z p
      = tabAt tU ((rowN (k0_off4 t (BitVec.ofNat 32 r.val)) (k0_off4_inb t r)).view.read (Elt F) (listN L fN) (ix1 (p 0))) (p 1))
    (hA : ∀ i, (fA i).toNat < 100000) (hB : ∀ i, (fB i).toNat < 100000) (hN : ∀ i, (fN i).toNat < 100000) :
    iprop(Transfers.MayWaits (thr d L) (default : HIx 1) O
        ∗ (mA.view.loc (thr d L) ↦{q} fA) ∗ (mB.view.loc (thr d L) ↦{q} fB) ∗ (mN.view.loc (thr d L) ↦{q} fN)
        ∗ (mT.view.loc (thr d L) ↦{q} tT) ∗ (mU.view.loc (thr d L) ↦{q} tU)
        ∗ winsS d L mX x ∗ winsS d L mY y ∗ (bigSep Finset.univ fun t => winsZ d L t z)
        ∗ (∃ f, sA.view.loc (thr d L) ↦{fullShare} f) ∗ (∃ f, sB.view.loc (thr d L) ↦{fullShare} f)
        ∗ (∃ f, sN.view.loc (thr d L) ↦{fullShare} f) ∗ (∃ f, sR.view.loc (thr d L) ↦{fullShare} f)
        ∗ sem0 d L cc0_scratch4
        ∗ sem0 d L cc0_scratch5
        ∗ sem0 d L cc0_scratch6
        ∗ sem0 d L cc0_scratch7
        ∗ sem0 d L cc0_scoped0
        ∗ sem0 d L cc0_scoped1
        ∗ sem0 d L cc0_scoped2
        ∗ sem0 d L cc0_scoped3
        ∗ sem0 d L cc0_scoped4
        ∗ sem0 d L cc0_scoped5
        ∗ sem0 d L cc0_scoped6
        ∗ sem0 d L cc0_scoped7
        ∗ sem0 d L cc0_scoped8
        ∗ sem0 d L cc0_scoped9
        ∗ sem0 d L cc0_scoped10
        ∗ sem0 d L cc0_scoped11
        ∗ sem0 d L cc0_scoped12
        ∗ sem0 d L cc0_scoped13
        ∗ sem0 d L cc0_scoped14
        ∗ owes (thr d L) O W)
      ⊢ wp frame (wpE (defs₀ (F := F)) 𝒱₀ (thr d L) none) Set.univ
          (cc0__sc_gather L mA (Memref.isWhole_whole _) mB (Memref.isWhole_whole _) mN (Memref.isWhole_whole _) mT (Memref.isWhole_whole _) mU (Memref.isWhole_whole _)
            mX (Memref.isWhole_whole _) mY (Memref.isWhole_whole _) mZ (Memref.isWhole_whole _) sA (Memref.isWhole_whole _) sB (Memref.isWhole_whole _)
            sN (Memref.isWhole_whole _) sR (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14)
          fun _ => iprop((mA.view.loc (thr d L) ↦{q} fA) ∗ (mB.view.loc (thr d L) ↦{q} fB) ∗ (mN.view.loc (thr d L) ↦{q} fN)
            ∗ (mT.view.loc (thr d L) ↦{q} tT) ∗ (mU.view.loc (thr d L) ↦{q} tU)
            ∗ winsS d L mX X ∗ winsS d L mY Y ∗ (bigSep Finset.univ fun t => winsZ d L t Z)
            ∗ (∃ f, sA.view.loc (thr d L) ↦{fullShare} f) ∗ (∃ f, sB.view.loc (thr d L) ↦{fullShare} f)
            ∗ (∃ f, sN.view.loc (thr d L) ↦{fullShare} f) ∗ (∃ f, sR.view.loc (thr d L) ↦{fullShare} f)
            ∗ sem0 d L cc0_scratch4
            ∗ sem0 d L cc0_scratch5
            ∗ sem0 d L cc0_scratch6
            ∗ sem0 d L cc0_scratch7
            ∗ sem0 d L cc0_scoped0
            ∗ sem0 d L cc0_scoped1
            ∗ sem0 d L cc0_scoped2
            ∗ sem0 d L cc0_scoped3
            ∗ sem0 d L cc0_scoped4
            ∗ sem0 d L cc0_scoped5
            ∗ sem0 d L cc0_scoped6
            ∗ sem0 d L cc0_scoped7
            ∗ sem0 d L cc0_scoped8
            ∗ sem0 d L cc0_scoped9
            ∗ sem0 d L cc0_scoped10
            ∗ sem0 d L cc0_scoped11
            ∗ sem0 d L cc0_scoped12
            ∗ sem0 d L cc0_scoped13
            ∗ sem0 d L cc0_scoped14
            ∗ ∃ W', ⌜∀ p ∈ W', p ∈ W ∨ p.2 = none⌝ ∗ owes (thr d L) O W') := by
  have hinA0 := fun x => listA_lt L fA hA ![0, 0] inb_S4x128_S1x128_0_0 x
  have hinA1 := fun x => listA_lt L fA hA ![1, 0] inb_S4x128_S1x128_1_0 x
  have hinA2 := fun x => listA_lt L fA hA ![2, 0] inb_S4x128_S1x128_2_0 x
  have hinA3 := fun x => listA_lt L fA hA ![3, 0] inb_S4x128_S1x128_3_0 x
  have hinB0 := fun x => listB_lt L fB hB ![0, 0] inb_S4x128_S1x128_0_0 x
  have hinB1 := fun x => listB_lt L fB hB ![1, 0] inb_S4x128_S1x128_1_0 x
  have hinB2 := fun x => listB_lt L fB hB ![2, 0] inb_S4x128_S1x128_2_0 x
  have hinB3 := fun x => listB_lt L fB hB ![3, 0] inb_S4x128_S1x128_3_0 x
  rw [cc0__sc_gather_eq_skeleton]
  unfold cc0__sc_gather_skel
  rw [k0_part13_eq_skeleton]
  unfold k0_part13_skel
  simp -proj only [k0_part5_eq_skeleton, k0_part6_eq_skeleton, k0_part7_eq_skeleton, k0_part8_eq_skeleton, k0_part9_eq_skeleton, k0_part10_eq_skeleton,
    k0_part11_eq_skeleton, k0_part12_eq_skeleton]
  unfold k0_part5_skel k0_part6_skel k0_part7_skel k0_part8_skel k0_part9_skel k0_part10_skel k0_part11_skel k0_part12_skel
  iintro ⟨#Hmw, HA, HB, HN, HT, HU, ⟨Hx0, Hx1, Hx2, Hx3⟩, ⟨Hy0, Hy1, Hy2, Hy3⟩, Hz, ⟨%gA, HsA⟩, ⟨%gB, HsB⟩, ⟨%gN, HsN⟩, ⟨%gR, HsR⟩, Hg0, Hg1, Hg2, Hg3, Hc0, Hc1, Hc2, Hc3, Hc4, Hc5, Hc6, Hc7, Hc8, Hc9, Hc10, Hc11, Hc12, Hc13, Hc14, HO⟩
  sl_exec
  ihave HsA := (Entails.of_eq (pointsTo_whole (q := fullShare) (landedA d L gA fA))) $$ HsA
  ihave HsB := (Entails.of_eq (pointsTo_whole (q := fullShare) (landedB d L gB fB))) $$ HsB
  ihave HsN := (Entails.of_eq (pointsTo_whole (q := fullShare) (landedN d L gN fN))) $$ HsN
  ihave HA4 := (lendS d L sA (listA L fA)).1 $$ HsA
  icases HA4 with ⟨HsA, Ha0, Ha1, Ha2, Ha3⟩
  ihave HB4 := (lendS d L sB (listB L fB)).1 $$ HsB
  icases HB4 with ⟨HsB, Hb0, Hb1, Hb2, Hb3⟩
  ihave HT4 := (toks4 q tT).1 $$ HT
  icases HT4 with ⟨HT, Ht0, Ht1, Ht2, Ht3⟩
  ihave HU4 := (toks4 q tU).1 $$ HU
  icases HU4 with ⟨HU, Hu0, Hu1, Hu2, Hu3⟩
  ihave HR4 := (Entails.of_eq (slots_split d L gR)) $$ HsR
  icases HR4 with ⟨Hr0, Hr1, Hr2, Hr3⟩
  sl_exec
  ihave HWX : winsS d L mX X $$ [Hx0 Hx1 Hx2 Hx3]
  · isplitl [Hx0]
    · iapply (Entails.of_eq (pointsTo_congr (landed _ (thr d L) rfl _ _ _ fun p => (hX 0 p).trans (deliveredT tT _ _ _ _ _ p).symm))); iexact Hx0
    isplitl [Hx1]
    · iapply (Entails.of_eq (pointsTo_congr (landed _ (thr d L) rfl _ _ _ fun p => (hX 1 p).trans (deliveredT tT _ _ _ _ _ p).symm))); iexact Hx1
    isplitl [Hx2]
    · iapply (Entails.of_eq (pointsTo_congr (landed _ (thr d L) rfl _ _ _ fun p => (hX 2 p).trans (deliveredT tT _ _ _ _ _ p).symm))); iexact Hx2
    iapply (Entails.of_eq (pointsTo_congr (landed _ (thr d L) rfl _ _ _ fun p => (hX 3 p).trans (deliveredT tT _ _ _ _ _ p).symm))); iexact Hx3
  ihave HWY : winsS d L mY Y $$ [Hy0 Hy1 Hy2 Hy3]
  · isplitl [Hy0]
    · iapply (Entails.of_eq (pointsTo_congr (landed _ (thr d L) rfl _ _ _ fun p => (hY 0 p).trans (delivered tU _ _ _ _ _ p).symm))); iexact Hy0
    isplitl [Hy1]
    · iapply (Entails.of_eq (pointsTo_congr (landed _ (thr d L) rfl _ _ _ fun p => (hY 1 p).trans (delivered tU _ _ _ _ _ p).symm))); iexact Hy1
    isplitl [Hy2]
    · iapply (Entails.of_eq (pointsTo_congr (landed _ (thr d L) rfl _ _ _ fun p => (hY 2 p).trans (delivered tU _ _ _ _ _ p).symm))); iexact Hy2
    iapply (Entails.of_eq (pointsTo_congr (landed _ (thr d L) rfl _ _ _ fun p => (hY 3 p).trans (delivered tU _ _ _ _ _ p).symm))); iexact Hy3
  sl_for (inv d L q (listN L fN) tU z Z O W) $$ [Hmw Hu0 Hu1 Hu2 Hu3 HsN Hr0 Hr1 Hr2 Hr3 Hz Hg0 Hg1 Hg2 Hg3 Hc11 Hc12 Hc13 Hc14 HO]
  case region =>
    intro k _
    exact lap d L q (listN L fN) tU z Z O W k _ (hZ k) (listN_lt L fN hN)
  · unfold inv
    isplitl []; · iexact Hmw
    isplitl [Hu0 Hu1 Hu2 Hu3]
    · isplitl [Hu0]; · iexact Hu0
      isplitl [Hu1]; · iexact Hu1
      isplitl [Hu2]; · iexact Hu2
      iexact Hu3
    isplitl [HsN]; · iexact HsN
    isplitl [Hr0 Hr1 Hr2 Hr3]
    · isplitl [Hr0]; · iexists _; iexact Hr0
      isplitl [Hr1]; · iexists _; iexact Hr1
      isplitl [Hr2]; · iexists _; iexact Hr2
      iexists _; iexact Hr3
    isplitl [Hz]; · iexact Hz
    isplitl [Hg0 Hg1 Hg2 Hg3]
    · isplitl [Hg0]; · iexact Hg0
      isplitl [Hg1]; · iexact Hg1
      isplitl [Hg2]; · iexact Hg2
      iexact Hg3
    isplitl [Hc11 Hc12 Hc13 Hc14]
    · isplitl [Hc11]; · iexact Hc11
      isplitl [Hc12]; · iexact Hc12
      isplitl [Hc13]; · iexact Hc13
      iexact Hc14
    iexists _; isplitr
    swap; · iexact HO
    ipureintro; intro p hp
    simp only [Finset.mem_insert] at hp
    rcases hp with h | h | h | h | h | h | h | h | h | h | h | h | h | h | h | h | h | h | h | h
    iterate 19 · exact .inr (h ▸ rfl)
    exact .inl h
  iintro %_ HI
  unfold inv
  icases HI with ⟨-, ⟨Hu0, Hu1, Hu2, Hu3⟩, HsN, Hr, Hz, ⟨Hg0, Hg1, Hg2, Hg3⟩, ⟨Hc11, Hc12, Hc13, Hc14⟩, %W', %hW', HO⟩
  sl_exec
  sl_step
  isplitl [HA]; · iexact HA
  isplitl [HB]; · iexact HB
  isplitl [HN]; · iexact HN
  isplitl [HT Ht0 Ht1 Ht2 Ht3]
  · iapply (toks4 q tT).2
    isplitl [HT]; · iexact HT
    isplitl [Ht0]; · iexact Ht0
    isplitl [Ht1]; · iexact Ht1
    isplitl [Ht2]; · iexact Ht2
    iexact Ht3
  isplitl [HU Hu0 Hu1 Hu2 Hu3]
  · iapply (toks4 q tU).2
    isplitl [HU]; · iexact HU
    isplitl [Hu0]; · iexact Hu0
    isplitl [Hu1]; · iexact Hu1
    isplitl [Hu2]; · iexact Hu2
    iexact Hu3
  isplitl [HWX]; · iexact HWX
  isplitl [HWY]; · iexact HWY
  isplitl [Hz]
  · iapply (Entails.of_eq (bigSep_congr fun t _ => congrArg (winsZ (F := F) d L t) (if_pos (show t.val < k0_t1_loop.trips from t.isLt)).symm).symm)
    iexact Hz
  isplitl [HsA Ha0 Ha1 Ha2 Ha3]
  · iexists (listA L fA)
    iapply (lendS d L sA (listA L fA)).2
    isplitl [HsA]; · iexact HsA
    isplitl [Ha0]; · iexact Ha0
    isplitl [Ha1]; · iexact Ha1
    isplitl [Ha2]; · iexact Ha2
    iexact Ha3
  isplitl [HsB Hb0 Hb1 Hb2 Hb3]
  · iexists (listB L fB)
    iapply (lendS d L sB (listB L fB)).2
    isplitl [HsB]; · iexact HsB
    isplitl [Hb0]; · iexact Hb0
    isplitl [Hb1]; · iexact Hb1
    isplitl [Hb2]; · iexact Hb2
    iexact Hb3
  isplitl [HsN]; · iexists _; iexact HsN
  isplitl [Hr]; · iapply (slots_join d L); iexact Hr
  isplitl [Hg0]; · iexact Hg0
  isplitl [Hg1]; · iexact Hg1
  isplitl [Hg2]; · iexact Hg2
  isplitl [Hg3]; · iexact Hg3
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  isplitl [Hc14]; · iexact Hc14
  iexists W'; isplitr
  · ipureintro; exact hW'
  iexact HO

end Cert.Proof.Rows

end
-- ==== Proof.Task.lean ====
/-
  A tile's task at the launch: the tile's run, from what the call hands the tile to what the tile hands back.
-/
module

public import proofs.«01_k».proof.Proof.Split
public import proofs.«01_k».proof.Proof.Tile

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's own semaphores and scratch buffers -/

/-- The tile's DMA semaphores, as cells. -/
def cells (d : Dev nD) (L : grid0.Coords) : Finset (GSem nD τ sig) :=
  (Finset.univ : Finset (Fin 19)).map ⟨fun j => (thr d L, SemLoc.dma (sig := sig) j), fun _ _ e => SemLoc.dma.inj (Prod.mk.inj e).2⟩

/-- The tile's nineteen semaphores are among the cells it owns. -/
theorem cells_own (d : Dev nD) (L : grid0.Coords) : cells d L ⊆ ownCells (thr d L) := by
  intro g hg
  obtain ⟨j, -, rfl⟩ := Finset.mem_map.mp hg
  exact mem_ownCells.mpr ⟨rfl, (show ∀ j : Fin 19, (SemLoc.dma (sig := sig) j).isScoped .scVector = true by decide) j⟩

/-- A resource for each of nineteen indices, written out. -/
theorem bigSep_nineteen (Φ : Fin 19 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18) := by
  rw [show (Finset.univ : Finset (Fin 19)) = {0, 1, 2, 3, 4, 5, 6, 7, 8, 9, 10, 11, 12, 13, 14, 15, 16, 17, 18} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The tile's nineteen semaphores are among the subcore's own. -/
theorem ownSems0_V (d : Dev nD) (L : grid0.Coords) :
    (ownSems0 (thr d L) : sProp 𝕄) = iprop((sem0 d L cc0_scratch4 ∗ sem0 d L cc0_scratch5 ∗ sem0 d L cc0_scratch6 ∗ sem0 d L cc0_scratch7 ∗ sem0 d L cc0_scoped0 ∗ sem0 d L cc0_scoped1 ∗ sem0 d L cc0_scoped2 ∗ sem0 d L cc0_scoped3 ∗ sem0 d L cc0_scoped4 ∗ sem0 d L cc0_scoped5 ∗ sem0 d L cc0_scoped6 ∗ sem0 d L cc0_scoped7 ∗ sem0 d L cc0_scoped8 ∗ sem0 d L cc0_scoped9 ∗ sem0 d L cc0_scoped10 ∗ sem0 d L cc0_scoped11 ∗ sem0 d L cc0_scoped12 ∗ sem0 d L cc0_scoped13 ∗ sem0 d L cc0_scoped14)
      ∗ bigSep (ownCells (thr d L) \ cells d L) fun g => semVal g 0) := by
  unfold SparseCore.Cfg.ownSems0
  refine (bigSep_sdiff_split (cells_own d L)).trans ?_
  refine congrArg (fun P : sProp 𝕄 => iprop(P ∗ bigSep (ownCells (thr d L) \ cells d L) fun g => semVal g 0)) ?_
  unfold cells
  rw [bigSep_map, bigSep_nineteen]
  rfl

/-- The four scratch buffers are among the subcore's own: they are them, at some contents, and the rest. -/
theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  have hne : ∀ {b b' : Ref sig .scVector}, b ≠ b' → (Proc.scVector (τ := τ) (cV L) (jV L)).devRef b ≠ (Proc.scVector (cV L) (jV L)).devRef b' :=
    fun h e => h (Proc.devRef_injective _ e)
  have hm : ∀ b : Ref sig .scVector, ((Proc.scVector (τ := τ) (cV L) (jV L)).devRef b).owner = .proc (.scVector (cV L) (jV L)) →
      (Proc.scVector (cV L) (jV L)).devRef b ∈ ownRefs (τ := τ) (.scVector (cV L) (jV L)) := fun b h => SparseCore.Cfg.mem_ownRefs_of_owner h
  unfold SparseCore.Cfg.ownBufs
  refine (SparseCore.bigSep_erase' (hm cc0_scratch0 rfl)).trans ?_
  rw [SparseCore.bigSep_erase' (Finset.mem_erase.mpr ⟨hne (show (cc0_scratch1 : Ref sig .scVector) ≠ cc0_scratch0 by decide), hm cc0_scratch1 rfl⟩),
    SparseCore.bigSep_erase' (Finset.mem_erase.mpr ⟨hne (show (cc0_scratch2 : Ref sig .scVector) ≠ cc0_scratch1 by decide),
      Finset.mem_erase.mpr ⟨hne (show (cc0_scratch2 : Ref sig .scVector) ≠ cc0_scratch0 by decide), hm cc0_scratch2 rfl⟩⟩),
    SparseCore.bigSep_erase' (Finset.mem_erase.mpr ⟨hne (show (cc0_scratch3 : Ref sig .scVector) ≠ cc0_scratch2 by decide),
      Finset.mem_erase.mpr ⟨hne (show (cc0_scratch3 : Ref sig .scVector) ≠ cc0_scratch1 by decide),
      Finset.mem_erase.mpr ⟨hne (show (cc0_scratch3 : Ref sig .scVector) ≠ cc0_scratch0 by decide), hm cc0_scratch3 rfl⟩⟩⟩)]

variable [FloatOps F]

/-- A tile's task: from its part of the operands at the launch to its part with the three results in its windows. -/
theorem tile_body (hF : (K (F := F)).Facts) (d : Dev nD) (L : grid0.Coords) (q : PosShare TreeShare)
    (a b : S16384.Idx → Elt F .i32) (n : S16384x64.Idx → Elt F .i32) (tT tU : S100000x128.Idx → Elt F .f32)
    (x y : S16384x128.Idx → Elt F .f32) (z : S1048576x128.Idx → Elt F .f32)
    (hA : ∀ i, (a i).toNat < 100000) (hB : ∀ i, (b i).toNat < 100000) (hN : ∀ i, (n i).toNat < 100000)
    (O : CellTallies nD τ sig (HIx 1)) (W : Waits sig (HIx 1)) (hO : ∀ g, O g none = 0) :
    iprop(levAts (K (F := F)).L (K (F := F)).lev ∗ emp
        ∗ part d q L (foldS a) (foldS b) (foldN n) tT tU x y z
        ∗ scopedBufs (thr d L) ∗ scopedSems0 (thr d L) ∗ owes (thr d L) O W)
      ⊢ wp frame (wpE (defs₀ (F := F)) 𝒱₀ (thr d L) none) Set.univ
          (cc0__sc_gather L mA (Memref.isWhole_whole _) mB (Memref.isWhole_whole _) mN (Memref.isWhole_whole _) mT (Memref.isWhole_whole _) mU (Memref.isWhole_whole _)
            mX (Memref.isWhole_whole _) mY (Memref.isWhole_whole _) mZ (Memref.isWhole_whole _) sA (Memref.isWhole_whole _) sB (Memref.isWhole_whole _)
            sN (Memref.isWhole_whole _) sR (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14)
          fun _ => iprop(part d q L (foldS a) (foldS b) (foldN n) tT tU (takeS tT a) (takeS tU b) (takeN tU n)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  unfold part
  iintro ⟨#Hlv, -, ⟨HA, HB, HN, HT, HU, HX, HY, HZ⟩, ⟨HsA, HsB, HsN, HsR, Hbufs⟩, ⟨⟨Hg0, Hg1, Hg2, Hg3, Hc0, Hc1, Hc2, Hc3, Hc4, Hc5, Hc6, Hc7, Hc8, Hc9, Hc10, Hc11, Hc12, Hc13, Hc14⟩, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand_r Idealize.ShloMosaic.frame (wpE (defs₀ (F := F)) 𝒱₀ (thr d L) none) Set.univ)
  isplitl [Hmw HA HB HN HT HU HX HY HZ HsA HsB HsN HsR Hg0 Hg1 Hg2 Hg3 Hc0 Hc1 Hc2 Hc3 Hc4 Hc5 Hc6 Hc7 Hc8 Hc9 Hc10 Hc11 Hc12 Hc13 Hc14 HO]
  · iapply (tile_run d L q (foldS a) (foldS b) (foldN n) tT tU x y (takeS tT a) (takeS tU b) z (takeN tU n) O W
      (takeX tT a L) (takeY tU b L) (takeZ tU n L) (fun i => hA _) (fun i => hB _) (fun i => hN _))
    isplitl [Hmw]; · iexact Hmw
    isplitl [HA]; · iexact HA
    isplitl [HB]; · iexact HB
    isplitl [HN]; · iexact HN
    isplitl [HT]; · iexact HT
    isplitl [HU]; · iexact HU
    isplitl [HX]; · iexact HX
    isplitl [HY]; · iexact HY
    isplitl [HZ]; · iexact HZ
    isplitl [HsA]; · iexact HsA
    isplitl [HsB]; · iexact HsB
    isplitl [HsN]; · iexact HsN
    isplitl [HsR]; · iexact HsR
    isplitl [Hg0]; · iexact Hg0
    isplitl [Hg1]; · iexact Hg1
    isplitl [Hg2]; · iexact Hg2
    isplitl [Hg3]; · iexact Hg3
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    iexact HO
  iintro %_ ⟨HA, HB, HN, HT, HU, HX, HY, HZ, HsA, HsB, HsN, HsR, Hg0, Hg1, Hg2, Hg3, Hc0, Hc1, Hc2, Hc3, Hc4, Hc5, Hc6, Hc7, Hc8, Hc9, Hc10, Hc11, Hc12, Hc13, Hc14, HO⟩
  isplitl [HA HB HN HT HU HX HY HZ]
  · isplitl [HA]; · iexact HA
    isplitl [HB]; · iexact HB
    isplitl [HN]; · iexact HN
    isplitl [HT]; · iexact HT
    isplitl [HU]; · iexact HU
    isplitl [HX]; · iexact HX
    isplitl [HY]; · iexact HY
    iexact HZ
  isplitl [HsA HsB HsN HsR Hbufs]
  · isplitl [HsA]; · iexact HsA
    isplitl [HsB]; · iexact HsB
    isplitl [HsN]; · iexact HsN
    isplitl [HsR]; · iexact HsR
    iexact Hbufs
  isplitl [Hg0 Hg1 Hg2 Hg3 Hc0 Hc1 Hc2 Hc3 Hc4 Hc5 Hc6 Hc7 Hc8 Hc9 Hc10 Hc11 Hc12 Hc13 Hc14 Hsems]
  · isplitr [Hsems]
    · isplitl [Hg0]; · iexact Hg0
      isplitl [Hg1]; · iexact Hg1
      isplitl [Hg2]; · iexact Hg2
      isplitl [Hg3]; · iexact Hg3
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      iexact Hc14
    iexact Hsems
  iexact HO

end Cert.Proof.Rows

end
-- ==== Proof.Launch.lean ====
/-
  The whole program's run: three reshapes, the one call over the thirty-two tiles, the last reshape; every argument kept, the three results at the gathered rows.
-/
module

public import proofs.«01_k».proof.Proof.Task

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

/-- The side facts the launch asks of the program's configuration. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-! ## The arguments and the results, in terms of the launch memory -/

/-- The input words at the launch. -/
abbrev argA (d : Dev nD) : S16384.Idx → Elt F .i32 := m ((SparseCore.T d).loc main_arg0)
/-- The output words at the launch. -/
abbrev argB (d : Dev nD) : S16384.Idx → Elt F .i32 := m ((SparseCore.T d).loc main_arg1)
/-- The noise words at the launch. -/
abbrev argN (d : Dev nD) : S16384x64.Idx → Elt F .i32 := m ((SparseCore.T d).loc main_arg2)
/-- The first table at the launch. -/
abbrev argT (d : Dev nD) : S100000x128.Idx → Elt F .f32 := m ((SparseCore.T d).loc main_arg3)
/-- The second table at the launch. -/
abbrev argU (d : Dev nD) : S100000x128.Idx → Elt F .f32 := m ((SparseCore.T d).loc main_arg4)

/-- The long result as the program returns it: folded into its three axes. -/
def foldZ (z : S1048576x128.Idx → Elt F .f32) : S16384x64x128.Idx → Elt F .f32 := shapeCast S16384x64x128 z shapeCasts_S1048576x128_S16384x64x128

/-- What the proof asks of the launch memory: every word of the three index arrays is below the tables' row count. -/
def Ok : Prop := ∀ d, (∀ i, (argA m d i).toNat < 100000) ∧ (∀ i, (argB m d i).toNat < 100000) ∧ ∀ i, (argN m d i).toNat < 100000

/-! ## What the call's handshakes carry -/

/-- A tile's part of the operands when the call begins. -/
def before (d : Dev nD) (c : Fin 2) (i : Fin 16) : sProp 𝕄 :=
  part d (shr c i) (pt c i) (foldS (argA m d)) (foldS (argB m d)) (foldN (argN m d)) (argT m d) (argU m d)
    (m ((SparseCore.T d).loc main_v3_0)) (m ((SparseCore.T d).loc main_v3_1)) (m ((SparseCore.T d).loc main_v3_2))
/-- A tile's part of the operands when the call is over. -/
def after (d : Dev nD) (c : Fin 2) (i : Fin 16) : sProp 𝕄 :=
  part d (shr c i) (pt c i) (foldS (argA m d)) (foldS (argB m d)) (foldN (argN m d)) (argT m d) (argU m d)
    (takeS (argT m d) (argA m d)) (takeS (argU m d) (argB m d)) (takeN (argU m d) (argN m d))

/-- What a tile receives can be stored in a cell. -/
instance before_storable (d c i) : BI.Storable (upEmb : UEmb _ 𝕄) (before m d c i) := by unfold before; infer_instance
/-- What a tile returns can be stored in a cell. -/
instance after_storable (d c i) : BI.Storable (upEmb : UEmb _ 𝕄) (after m d c i) := by unfold after; infer_instance

/-- The parts of one SparseCore's sixteen tiles when the call begins, -/
def befores (d : Dev nD) (c : Fin 2) : sProp 𝕄 := bigSep Finset.univ fun i : Fin 16 => before m d c i
/-- and when it is over. -/
def afters (d : Dev nD) (c : Fin 2) : sProp 𝕄 := bigSep Finset.univ fun i : Fin 16 => after m d c i

/-- What a SparseCore receives can be stored in a cell. -/
instance befores_storable (d c) : BI.Storable (upEmb : UEmb _ 𝕄) (befores m d c) := by unfold befores; infer_instance
/-- What a SparseCore returns can be stored in a cell. -/
instance afters_storable (d c) : BI.Storable (upEmb : UEmb _ 𝕄) (afters m d c) := by unfold afters; infer_instance

/-- The call runs on two SparseCores. -/
theorem nCore_eq (q : Fin 1) : (K (F := F)).nCore q = 2 := match q with | 0 => rfl
/-- The call runs on sixteen tiles of each SparseCore. -/
theorem nSub_eq (q : Fin 1) : (K (F := F)).nSub q = 16 := match q with | 0 => rfl

/-- The call hands each SparseCore its sixteen tiles' parts, each tile its own, and has them back. -/
def P : (K (F := F)).Pay (nD := nD) (Val := Elt F) (Name := ℕ) (U := UU) where
  st := fun q d c => befores m d (Fin.cast (nCore_eq q) c)
  dn := fun q d c => afters m d (Fin.cast (nCore_eq q) c)
  go := fun q d c i => before m d (Fin.cast (nCore_eq q) c) (Fin.cast (nSub_eq q) i)
  td := fun q d c i => after m d (Fin.cast (nCore_eq q) c) (Fin.cast (nSub_eq q) i)
  x := fun _ _ => iprop(emp)

/-- Everything the call hands over can be stored in a cell. -/
instance P_storable : (P (F := F) m).IsStorable where
  st _ d _ := befores_storable m d _
  dn _ d _ := afters_storable m d _
  go _ d _ _ := before_storable m d _ _
  td _ d _ _ := after_storable m d _ _

/-- A SparseCore's operands are its tiles' operands, and its tiles' results are its results. -/
theorem vecSplit : (K (F := F)).VecSplit' (P m) 0 := by
  intro d c
  show (befores m d (Fin.cast (nCore_eq 0) c)) ⊢ |={Set.univ}=> iprop(
      (bigSep Finset.univ fun i : Fin ((K (F := F)).nSub 0) => before m d (Fin.cast (nCore_eq 0) c) (Fin.cast (nSub_eq 0) i))
      ∗ ((bigSep Finset.univ fun i : Fin ((K (F := F)).nSub 0) => after m d (Fin.cast (nCore_eq 0) c) (Fin.cast (nSub_eq 0) i))
          -∗ afters m d (Fin.cast (nCore_eq 0) c)))
  unfold befores afters
  iintro H; imodintro
  isplitl [H]; · iexact H
  iintro H; iexact H

/-! ## The launch element of the certificate's ghost state -/

/-- The resource the launch starts from: the handshakes' cells and tokens. -/
def u₀ : UU := (initOf (K (F := F)).hsCells (K (F := F)).hsToks, 1)

/-- The empty resource, once for every member of a set, is the empty resource. -/
theorem emps {I : Type} (s : Finset I) : (bigSep s fun _ => iprop(emp)) = (iprop(emp) : sProp 𝕄) := bigSep_emp_const s

/-- The starting resource yields the handshakes' cells and tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

variable [FloatOps F]

/-! ## The tiles' task -/

/-- The grid coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The task a tile runs in the call is the kernel's text at the tile's coordinates. -/
theorem defs₀_vector (c : Fin τ.nSC) (s : Fin τ.nSub) :
    defs₀ (F := F) (.scVector c s) 0 ()
      = SparseCore.onTile hcore0 hsub0 (fun c s => cc0__sc_gather (coordsV c s) mA (Memref.isWhole_whole _) mB (Memref.isWhole_whole _) mN (Memref.isWhole_whole _) mT (Memref.isWhole_whole _) mU (Memref.isWhole_whole _)
          mX (Memref.isWhole_whole _) mY (Memref.isWhole_whole _) mZ (Memref.isWhole_whole _) sA (Memref.isWhole_whole _) sB (Memref.isWhole_whole _)
          sN (Memref.isWhole_whole _) sR (Memref.isWhole_whole _) cc0_scratch4 cc0_scratch5 cc0_scratch6 cc0_scratch7 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14) ⟨⟩ c s := rfl

/-- A weaker bound on the waits a thread may have left behind. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call does its task. -/
theorem tileObl (hF : (K (F := F)).Facts) (hm : Ok m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body hF d (coordsV ⟨_, hci.1⟩ ⟨_, hci.2⟩) (shr (Fin.cast (nCore_eq 0) c) (Fin.cast (nSub_eq 0) i)) (argA m d) (argB m d) (argN m d) (argT m d) (argU m d)
    (m ((SparseCore.T d).loc main_v3_0)) (m ((SparseCore.T d).loc main_v3_1)) (m ((SparseCore.T d).loc main_v3_2))
    (hm d).1 (hm d).2.1 (hm d).2.2 O W hO).trans (wp_mono frame _ _ fun _ => obl_post)

/-! ## The host program -/

/-- The buffers a device holds at the launch, listed one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_arg3 ↦{fullShare} W main_arg3) ∗ ((SparseCore.T d).loc main_arg4 ↦{fullShare} W main_arg4) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3_0 ↦{fullShare} W main_v3_0) ∗ ((SparseCore.T d).loc main_v3_1 ↦{fullShare} W main_v3_1) ∗ ((SparseCore.T d).loc main_v3_2 ↦{fullShare} W main_v3_2) ∗ ((SparseCore.T d).loc main_v4 ↦{fullShare} W main_v4)) := by
  unfold unscopedBufs
  rw [show (Finset.univ.filter fun b : Ref sig .tc => ¬ b.isScoped) = {main_arg0, main_arg1, main_arg2, main_arg3, main_arg4, main_v0, main_v1, main_v2, main_v3_0, main_v3_1, main_v3_2, main_v4} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- A reshape, from its operand and its result's buffer. -/
theorem wp_reshape (d : Dev nD) (x y : Ref sig .tc) (hxy : x ≠ y) (he : x.ty.elt = y.ty.elt) (hn hx hy) (V : Valuation τ sig (Elt F)) {Q : PUnit → sProp 𝕄} (h) :
    iprop(boundary (SparseCore.T d) ∗ ((SparseCore.T d).loc x ↦{fullShare} V (Proc.devRef .tc x)) ∗ ((SparseCore.T d).loc y ↦{fullShare} V (Proc.devRef .tc y)))
      ⊢ iprop(((boundary (SparseCore.T d) ∗ ((SparseCore.T d).loc x ↦{fullShare} V (Proc.devRef .tc x))
            ∗ ((SparseCore.T d).loc y ↦{fullShare} fun i => he ▸ shapeCast y.ty.shape (V (Proc.devRef .tc x)) hn i)) -∗ Q ⟨⟩)
        -∗ wp frame (wpE ((K (F := F)).defs (D (F := F))) 𝒱 (SparseCore.T d) none) Set.univ
            (hlo h (StableHlo.reshape x y he hn hx hy) fun _ => .ret ⟨⟩) Q) := by
  have hne : (Proc.devRef .tc x : DevRef τ sig) ≠ Proc.devRef .tc y := fun e => hxy (Proc.devRef_injective _ e)
  have hheld : ∀ W : Valuation τ sig (Elt F), (held (SparseCore.T d) {Proc.devRef .tc x, Proc.devRef .tc y} W : sProp 𝕄)
      = iprop(((SparseCore.T d).loc x ↦{fullShare} W (Proc.devRef .tc x)) ∗ (SparseCore.T d).loc y ↦{fullShare} W (Proc.devRef .tc y)) := by
    intro W; unfold held
    rw [SparseCore.bigSep_insert' (by simpa using hne), bigSep_singleton]
  have hw := wp_hlo_within (defs := (K (F := F)).defs (D (F := F))) (Name := ℕ) (U := UU) 𝒱 (SparseCore.T d) none Set.univ (hp := h) (op := StableHlo.reshape x y he hn hx hy) (k := fun _ => .ret ⟨⟩)
    (S := {Proc.devRef .tc x, Proc.devRef .tc y}) (Finset.Subset.refl _) (V := V) (Q := Q)
  rw [hheld, hheld, StableHlo.reshape_result, StableHlo.reshape_result_ne _ _ _ _ _ _ _ hxy] at hw
  iintro H Hk
  iapply hw $$ H
  iintro H
  rw [wp_ret]; imodintro
  iapply Hk; iexact H

/-- The first reshape: the input words laid out by tile. -/
theorem wp_foldA (d : Dev nD) {Q : PUnit → sProp 𝕄} :
    iprop(boundary (SparseCore.T d) ∗ ((SparseCore.T d).loc main_arg0 ↦{fullShare} m ((SparseCore.T d).loc main_arg0)) ∗ ((SparseCore.T d).loc main_v0 ↦{fullShare} m ((SparseCore.T d).loc main_v0)))
      ⊢ iprop(((boundary (SparseCore.T d) ∗ ((SparseCore.T d).loc main_arg0 ↦{fullShare} m ((SparseCore.T d).loc main_arg0)) ∗ ((SparseCore.T d).loc main_v0 ↦{fullShare} foldS (argA m d))) -∗ Q ⟨⟩)
        -∗ wp frame (wpE ((K (F := F)).defs (D (F := F))) 𝒱 (SparseCore.T d) none) Set.univ
            (hlo rfl (StableHlo.reshape main_arg0 main_v0 (rfl : (.i32 : EltTy) = .i32) shapeCasts_S16384_S32x4x128) fun _ => .ret ⟨⟩) Q) :=
  wp_reshape d main_arg0 main_v0 (by decide) _ _ _ _ (fun b => m (d, b)) rfl

/-- The second reshape: the output words laid out by tile. -/
theorem wp_foldB (d : Dev nD) {Q : PUnit → sProp 𝕄} :
    iprop(boundary (SparseCore.T d) ∗ ((SparseCore.T d).loc main_arg1 ↦{fullShare} m ((SparseCore.T d).loc main_arg1)) ∗ ((SparseCore.T d).loc main_v1 ↦{fullShare} m ((SparseCore.T d).loc main_v1)))
      ⊢ iprop(((boundary (SparseCore.T d) ∗ ((SparseCore.T d).loc main_arg1 ↦{fullShare} m ((SparseCore.T d).loc main_arg1)) ∗ ((SparseCore.T d).loc main_v1 ↦{fullShare} foldS (argB m d))) -∗ Q ⟨⟩)
        -∗ wp frame (wpE ((K (F := F)).defs (D (F := F))) 𝒱 (SparseCore.T d) none) Set.univ
            (hlo rfl (StableHlo.reshape main_arg1 main_v1 (rfl : (.i32 : EltTy) = .i32) shapeCasts_S16384_S32x4x128) fun _ => .ret ⟨⟩) Q) :=
  wp_reshape d main_arg1 main_v1 (by decide) _ _ _ _ (fun b => m (d, b)) rfl

/-- The third reshape: the noise words laid out by tile. -/
theorem wp_foldN (d : Dev nD) {Q : PUnit → sProp 𝕄} :
    iprop(boundary (SparseCore.T d) ∗ ((SparseCore.T d).loc main_arg2 ↦{fullShare} m ((SparseCore.T d).loc main_arg2)) ∗ ((SparseCore.T d).loc main_v2 ↦{fullShare} m ((SparseCore.T d).loc main_v2)))
      ⊢ iprop(((boundary (SparseCore.T d) ∗ ((SparseCore.T d).loc main_arg2 ↦{fullShare} m ((SparseCore.T d).loc main_arg2)) ∗ ((SparseCore.T d).loc main_v2 ↦{fullShare} foldN (argN m d))) -∗ Q ⟨⟩)
        -∗ wp frame (wpE ((K (F := F)).defs (D (F := F))) 𝒱 (SparseCore.T d) none) Set.univ
            (hlo rfl (StableHlo.reshape main_arg2 main_v2 (rfl : (.i32 : EltTy) = .i32) shapeCasts_S16384x64_S32x256x128) fun _ => .ret ⟨⟩) Q) :=
  wp_reshape d main_arg2 main_v2 (by decide) _ _ _ _ (fun b => m (d, b)) rfl

/-- The last reshape: the noise rows laid out by batch entry and sample. -/
theorem wp_foldZ (d : Dev nD) (z : S1048576x128.Idx → Elt F .f32) {Q : PUnit → sProp 𝕄} :
    iprop(boundary (SparseCore.T d) ∗ ((SparseCore.T d).loc main_v3_2 ↦{fullShare} z) ∗ ((SparseCore.T d).loc main_v4 ↦{fullShare} m ((SparseCore.T d).loc main_v4)))
      ⊢ iprop(((boundary (SparseCore.T d) ∗ ((SparseCore.T d).loc main_v3_2 ↦{fullShare} z) ∗ ((SparseCore.T d).loc main_v4 ↦{fullShare} foldZ z)) -∗ Q ⟨⟩)
        -∗ wp frame (wpE ((K (F := F)).defs (D (F := F))) 𝒱 (SparseCore.T d) none) Set.univ
            (hlo rfl (StableHlo.reshape main_v3_2 main_v4 (rfl : (.f32 : EltTy) = .f32) shapeCasts_S1048576x128_S16384x64x128) fun _ => .ret ⟨⟩) Q) := by
  have h := wp_reshape d main_v3_2 main_v4 (by decide) (rfl : (.f32 : EltTy) = .f32) shapeCasts_S1048576x128_S16384x64x128 ⟨by decide, rfl⟩ ⟨by decide, rfl⟩
    (Function.update (fun b => m (d, b)) (Proc.devRef .tc main_v3_2) z) (Q := Q) rfl
  rw [Function.update_self, Function.update_of_ne (show (Proc.devRef .tc main_v4 : DevRef τ sig) ≠ Proc.devRef .tc main_v3_2 by decide)] at h
  exact h

/-- What the call hands a SparseCore, named. -/
theorem st_eq (d : Dev nD) (c : Fin ((K (F := F)).nCore 0)) : (P m).st 0 d c = befores m d (finCongr (nCore_eq (F := F) 0) c) := by
  dsimp only [P]
  rw [finCongr_apply]

/-- What the two SparseCores receive is the call's operands, whole. -/
theorem before_parts (d : Dev nD) : (bigSep Finset.univ fun c : Fin 2 => befores m d c)
    = operands d (foldS (argA m d)) (foldS (argB m d)) (foldN (argN m d)) (argT m d) (argU m d)
        (m ((SparseCore.T d).loc main_v3_0)) (m ((SparseCore.T d).loc main_v3_1)) (m ((SparseCore.T d).loc main_v3_2)) := by
  unfold befores before
  exact (operands_parts d _ _ _ _ _ _ _ _).symm

/-- The call's operands, whole, are what it hands over. -/
theorem before_all (d : Dev nD) : (bigSep Finset.univ fun c : Fin ((K (F := F)).nCore 0) => (P m).st 0 d c)
    = operands d (foldS (argA m d)) (foldS (argB m d)) (foldN (argN m d)) (argT m d) (argU m d)
        (m ((SparseCore.T d).loc main_v3_0)) (m ((SparseCore.T d).loc main_v3_1)) (m ((SparseCore.T d).loc main_v3_2)) :=
  (bigSep_congr fun c _ => st_eq m d c).trans ((bigSep_univ_equiv (finCongr (nCore_eq (F := F) 0)) (fun c => befores m d c)).symm.trans (before_parts m d))

/-- What the call gets back from a SparseCore, named. -/
theorem dn_eq (d : Dev nD) (c : Fin ((K (F := F)).nCore 0)) : (P m).dn 0 d c = afters m d (finCongr (nCore_eq (F := F) 0) c) := by
  dsimp only [P]
  rw [finCongr_apply]

/-- What the two SparseCores return is the call's operands, whole, with the three results gathered. -/
theorem after_parts (d : Dev nD) : (bigSep Finset.univ fun c : Fin 2 => afters m d c)
    = operands d (foldS (argA m d)) (foldS (argB m d)) (foldN (argN m d)) (argT m d) (argU m d)
        (takeS (argT m d) (argA m d)) (takeS (argU m d) (argB m d)) (takeN (argU m d) (argN m d)) := by
  unfold afters after
  exact (operands_parts d _ _ _ _ _ _ _ _).symm

/-- What the call gets back is the operands, whole, with the three results gathered. -/
theorem after_all (d : Dev nD) : (bigSep Finset.univ fun c : Fin ((K (F := F)).nCore 0) => (P m).dn 0 d c)
    = operands d (foldS (argA m d)) (foldS (argB m d)) (foldN (argN m d)) (argT m d) (argU m d)
        (takeS (argT m d) (argA m d)) (takeS (argU m d) (argB m d)) (takeN (argU m d) (argN m d)) :=
  (bigSep_congr fun c _ => dn_eq m d c).trans ((bigSep_univ_equiv (finCongr (nCore_eq (F := F) 0)) (fun c => afters m d c)).symm.trans (after_parts m d))

/-- What the host program leaves: the arguments at their launch contents, the results at the gathered rows. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4))
    ∗ ((SparseCore.T d).loc main_v3_0 ↦{fullShare} takeS (argT m d) (argA m d)) ∗ ((SparseCore.T d).loc main_v3_1 ↦{fullShare} takeS (argU m d) (argB m d))
    ∗ ((SparseCore.T d).loc main_v4 ↦{fullShare} foldZ (takeN (argU m d) (argN m d))))

/-- The host program: the three reshapes, the call, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hb0, Hn, Ht, Hu, H0, H1, H2, Hx, Hy, Hz, Hw⟩, Hts, -⟩, -⟩
  iapply (wp_foldA m d) $$ [Hb Ha H0]
  · isplitl [Hb]; · iexact Hb
    isplitl [Ha]; · iexact Ha
    iexact H0
  iintro ⟨Hb, Ha, H0⟩
  iapply (wp_foldB m d) $$ [Hb Hb0 H1]
  · isplitl [Hb]; · iexact Hb
    isplitl [Hb0]; · iexact Hb0
    iexact H1
  iintro ⟨Hb, Hb0, H1⟩
  iapply (wp_foldN m d) $$ [Hb Hn H2]
  · isplitl [Hb]; · iexact Hb
    isplitl [Hn]; · iexact Hn
    iexact H2
  iintro ⟨Hb, Hn, H2⟩
  iapply ((K (F := F)).wp_run (D (F := F)) 𝒱 (EH := EH) (P := P m) κ d 0) $$ [Hst Ha Hb0 Hn H0 H1 H2 Ht Hu Hx Hy Hz Hw Hb Hts]
  isplitr; · iexact Hctx
  isplitl [Hst]; · iexact Hst
  isplitl [H0 H1 H2 Ht Hu Hx Hy Hz]
  · rw [before_all]; unfold operands
    isplitl [H0]; · iexact H0
    isplitl [H1]; · iexact H1
    isplitl [H2]; · iexact H2
    isplitl [Ht]; · iexact Ht
    isplitl [Hu]; · iexact Hu
    isplitl [Hx]; · iexact Hx
    isplitl [Hy]; · iexact Hy
    iexact Hz
  iintro ⟨Hst, Hdn⟩
  ihave Hdn' := (Entails.of_eq (after_all m d)) $$ Hdn
  unfold operands
  icases Hdn' with ⟨-, -, -, Ht, Hu, Hx, Hy, Hz⟩
  iapply (wp_foldZ m d _) $$ [Hb Hz Hw]
  · isplitl [Hb]; · iexact Hb
    isplitl [Hz]; · iexact Hz
    iexact Hw
  iintro ⟨Hb, Hz, Hw⟩
  imodintro
  isplitl [Hst]; · iexact Hst
  isplitr [Hb Hts]
  · isplitl [Ha]; · iexact Ha
    isplitl [Hb0]; · iexact Hb0
    isplitl [Hn]; · iexact Hn
    isplitl [Ht]; · iexact Ht
    isplitl [Hu]; · iexact Hu
    isplitl [Hx]; · iexact Hx
    isplitl [Hy]; · iexact Hy
    iexact Hw
  isplitl [Hb] <;> iassumption

/-- The end of a run on one device: the arguments unchanged, the results at the gathered rows. -/
def fq (d : Dev nD) (s' : Phys nD τ sig (Elt F)) : Prop :=
  s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)
    ∧ s'.mem.mem ((SparseCore.T d).loc main_v3_0) = takeS (argT m d) (argA m d) ∧ s'.mem.mem ((SparseCore.T d).loc main_v3_1) = takeS (argU m d) (argB m d)
    ∧ s'.mem.mem ((SparseCore.T d).loc main_v4) = foldZ (takeN (argU m d) (argN m d))

/-- An array held whole is what the memory has there. -/
theorem held_whole (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- What a device ends with fixes the final memory's arguments and results. -/
theorem hfin (d : Dev nD) (s' : Phys nD τ sig (Elt F)) : iprop(FIN m d ∗ SI s') ⊢ (⌜fq m d s'⌝ : sProp 𝕄) := by
  iintro ⟨⟨Ha, Hb0, Hn, Ht, Hu, Hx, Hy, Hw⟩, HSI⟩
  ihave H := (held_whole s' _ _) $$ [HSI Ha]
  · isplitl [HSI] <;> iassumption
  icases H with ⟨%h0, HSI⟩
  ihave H := (held_whole s' _ _) $$ [HSI Hb0]
  · isplitl [HSI] <;> iassumption
  icases H with ⟨%h1, HSI⟩
  ihave H := (held_whole s' _ _) $$ [HSI Hn]
  · isplitl [HSI] <;> iassumption
  icases H with ⟨%h2, HSI⟩
  ihave H := (held_whole s' _ _) $$ [HSI Ht]
  · isplitl [HSI] <;> iassumption
  icases H with ⟨%h3, HSI⟩
  ihave H := (held_whole s' _ _) $$ [HSI Hu]
  · isplitl [HSI] <;> iassumption
  icases H with ⟨%h4, HSI⟩
  ihave H := (held_whole s' _ _) $$ [HSI Hx]
  · isplitl [HSI] <;> iassumption
  icases H with ⟨%h5, HSI⟩
  ihave H := (held_whole s' _ _) $$ [HSI Hy]
  · isplitl [HSI] <;> iassumption
  icases H with ⟨%h6, HSI⟩
  ihave H := (held_whole s' _ _) $$ [HSI Hw]
  · isplitl [HSI] <;> iassumption
  icases H with ⟨%h7, HSI⟩
  ipureintro; exact ⟨h0, h1, h2, h3, h4, h5, h6, h7⟩

/-- The end of a run: so on every device, and every semaphore at zero. -/
def QC : PUnit × MemSt nD τ sig (Elt F) → Prop := fun r => (∀ d : Dev nD,
  r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)
    ∧ r.2.mem ((SparseCore.T d).loc main_arg4) = m ((SparseCore.T d).loc main_arg4)
    ∧ r.2.mem ((SparseCore.T d).loc main_v3_0) = takeS (argT m d) (argA m d) ∧ r.2.mem ((SparseCore.T d).loc main_v3_1) = takeS (argU m d) (argB m d)
    ∧ r.2.mem ((SparseCore.T d).loc main_v4) = foldZ (takeN (argU m d) (argN m d))) ∧ r.2.sem = fun _ => 0

/-- Every run of the program ends so, from any launch memory whose index words are in range. -/
theorem run_main [∀ e, Nonempty (Elt F e)] (hm : Ok m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hm)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Rows

end
-- ==== Proof.Pre.lean ====
/-
  The precondition, decoded: every word of the three index arrays is below the tables' row count.
-/
module

public import proofs.«01_k».proof.Defs
public import proofs.«01_k».proof.Proof.Launch
public import proofs.«01_k».proof.Proof.Gen.Pre_words_in_vocab
public import Idealize.ShloMosaic.Lib.ReduceAll

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- Comparing two words gives a bit, and the bit is 1 exactly when the comparison holds. -/
theorem bit_one (p : Bool) : (BitVec.ofBool p = 1#1) ↔ p = true := by cases p <;> decide

/-- A word that is at least 0 and below 100000, both read signed, is below 100000 read unsigned. -/
theorem word_lt (w : BitVec 32) (lo : IntOp.cmpi .sge w 0#32 = 1#1) (hi : IntOp.cmpi .slt w 100000#32 = 1#1) : w.toNat < 100000 := by
  simp only [IntOp.cmpi, bit_one, BitVec.sle_eq_decide, BitVec.slt_eq_decide, decide_eq_true_eq, BitVec.toInt_eq_toNat_cond,
    BitVec.toNat_ofNat, Nat.reducePow, Nat.reduceMod] at lo hi
  omega

/-- The precondition's one bit is 1 only if every word of each of the three arrays is in range. -/
theorem words_lt [FloatOps F] (a b : IVec S16384 32) (n : IVec S16384x64 32) (t u : FVec F S100000x128 .f32)
    (e : Cert.Pre_words_in_vocab.fn (F := F) a b n t u = fun _ => 1#1) :
    (∀ i, (a i).toNat < 100000) ∧ (∀ i, (b i).toNat < 100000) ∧ ∀ i, (n i).toNat < 100000 := by
  have e0 := congrFun e (fun k => k.elim0)
  simp only [Cert.Pre_words_in_vocab.fn, Cert.Pre_words_in_vocab.fn_part1] at e0
  obtain ⟨e1, nhi⟩ := IntOp.andi_eq_one.1 e0
  obtain ⟨e2, nlo⟩ := IntOp.andi_eq_one.1 e1
  obtain ⟨e3, bhi⟩ := IntOp.andi_eq_one.1 e2
  obtain ⟨e4, blo⟩ := IntOp.andi_eq_one.1 e3
  obtain ⟨alo, ahi⟩ := IntOp.andi_eq_one.1 e4
  have : Subsingleton Cert.Pre_words_in_vocab.S_.Idx := ⟨fun x y => funext fun k => k.elim0⟩
  exact ⟨fun i => word_lt _ (Host.reduce_andi_all _ _ _ _ _ alo i) (Host.reduce_andi_all _ _ _ _ _ ahi i),
    fun i => word_lt _ (Host.reduce_andi_all _ _ _ _ _ blo i) (Host.reduce_andi_all _ _ _ _ _ bhi i),
    fun i => word_lt _ (Host.reduce_andi_all _ _ _ _ _ nlo i) (Host.reduce_andi_all _ _ _ _ _ nhi i)⟩

/-- What the precondition of the program over the reals gives. -/
theorem ok_ideal (m : (ℓ : Loc nD τ sig) → Buf (Elt Ideal) ℓ) (h : Cert.Pre_KernelIdeal m) : Ok m := fun d => words_lt _ _ _ _ _ (h d)

/-- What the precondition of the program over bit-exact floats gives. -/
theorem ok_bits (m : (ℓ : Loc nD τ sig) → Buf (Elt Bits) ℓ) (h : Cert.Pre_Kernel m) : Ok m := fun d => words_lt _ _ _ _ _ (h d)

end Cert.Proof.Rows

end
-- ==== Proof.Ref.lean ====
/-
  The reference's results: where every word is in range, what it computes is the gathered rows.
-/
module

public import proofs.«01_k».proof.Proof.Launch
public import proofs.«01_k».proof.Proof.Gen.ReferenceIdeal.Run
public import Idealize.ShloMosaic.Lib.ReduceAll
public import Idealize.ShloMosaic.Lib.Routing.Ops

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

open Idealize.ShloMosaic.ValueIdx (ix2 eq_ix2)

/-! ## One word -/

/-- A word in range is not negative read signed. -/
theorem not_neg {w : BitVec 32} (h : w.toNat < 100000) : IntOp.cmpi .slt w 0#32 ≠ 1#1 := by
  cases e : w.slt 0#32 <;> simp only [IntOp.cmpi, e] <;> try decide
  simp only [BitVec.slt_eq_decide, decide_eq_true_eq, BitVec.toInt_eq_toNat_cond, BitVec.toNat_ofNat, Nat.reducePow, Nat.reduceMod] at e
  omega

/-- A word in range passes both of the reference's bounds. -/
theorem within {w : BitVec 32} (h : w.toNat < 100000) : IntOp.andi (IntOp.cmpi .sge w 0#32) (IntOp.cmpi .sle w 99999#32) = 1#1 := by
  have e : BitVec.sle 0#32 w = true ∧ BitVec.sle w 99999#32 = true := by
    simp only [BitVec.sle_eq_decide, decide_eq_true_eq, BitVec.toInt_eq_toNat_cond, BitVec.toNat_ofNat, Nat.reducePow, Nat.reduceMod]
    omega
  simp only [IntOp.cmpi, e.1, e.2]
  decide

/-! ## One take -/

/-- The words the reference looks up, in one column: each word, plus the table's row count where it is negative. -/
abbrev column {n : ℕ} (a : (⟨1, ![n]⟩ : Shape).Idx → BitVec 32)
    (hb : (⟨0, ![]⟩ : Shape).BroadcastsInDim ⟨1, ![n]⟩ ![]) (hc : (⟨1, ![n]⟩ : Shape).BroadcastsInDim ⟨2, ![n, 1]⟩ ![0]) :
    (⟨2, ![n, 1]⟩ : Shape).Idx → BitVec 32 :=
  broadcastInDim ⟨2, ![n, 1]⟩ ![0] hc (select (cmpi .slt a (broadcastInDim ⟨1, ![n]⟩ ![] hb (constantI ⟨0, ![]⟩ 32 0#32)))
    (addi a (broadcastInDim ⟨1, ![n]⟩ ![] hb (constantI ⟨0, ![]⟩ 32 100000#32))) a)

/-- Where every word is in range the column holds the words themselves. -/
theorem column_at {n : ℕ} (a : (⟨1, ![n]⟩ : Shape).Idx → BitVec 32) (h : ∀ i, (a i).toNat < 100000)
    (hb : (⟨0, ![]⟩ : Shape).BroadcastsInDim ⟨1, ![n]⟩ ![]) (hc : (⟨1, ![n]⟩ : Shape).BroadcastsInDim ⟨2, ![n, 1]⟩ ![0]) (x : (⟨2, ![n, 1]⟩ : Shape).Idx) :
    column a hb hc x = a fun | 0 => x 0 := by
  have e : select (cmpi .slt a (broadcastInDim ⟨1, ![n]⟩ ![] hb (constantI ⟨0, ![]⟩ 32 0#32)))
      (addi a (broadcastInDim ⟨1, ![n]⟩ ![] hb (constantI ⟨0, ![]⟩ 32 100000#32))) a = a :=
    funext fun i => if_neg (not_neg (h i))
  unfold column
  rw [e]
  refine congrArg a (funext fun k => ?_)
  match k with
  | 0 =>
    refine Fin.ext ?_
    dsimp only
    split
    · rename_i h1
      have : (x 0).val < n := (x 0).isLt
      have : n = 1 := h1
      show 0 = (x 0).val
      omega
    · rfl

/-- The reference's take of `n` rows, the words all in range: row `i` is the table's row at word `i`. -/
theorem take_rows {n : ℕ} (tb : S100000x128.Idx → Elt F .f32) (a : (⟨1, ![n]⟩ : Shape).Idx → BitVec 32) (h : ∀ i, (a i).toNat < 100000)
    (hb : (⟨0, ![]⟩ : Shape).BroadcastsInDim ⟨1, ![n]⟩ ![]) (hc : (⟨1, ![n]⟩ : Shape).BroadcastsInDim ⟨2, ![n, 1]⟩ ![0])
    (hz : (⟨0, ![]⟩ : Shape).BroadcastsInDim ⟨2, ![n, 1]⟩ ![]) (h1 : (⟨1, ![1]⟩ : Shape).BroadcastsInDim ⟨2, ![1, 1]⟩ ![1])
    (h11 : (⟨2, ![1, 1]⟩ : Shape).BroadcastsInDim ⟨2, ![n, 1]⟩ ![0, 1]) (hr : (⟨2, ![n, 1]⟩ : Shape).ReducesTo [1] ⟨1, ![n]⟩)
    (hu : 0 < (⟨0, ![]⟩ : Shape).numel) (hm : (⟨1, ![n]⟩ : Shape).BroadcastsInDim ⟨2, ![n, 128]⟩ ![0])
    (d : GatherDims ⟨2, ![100000, 128]⟩ ⟨2, ![n, 1]⟩ ⟨2, ![n, 128]⟩) (hoff : d.offsetDims = [1])
    (hcoll : d.collapsedSliceDims = [0]) (hob : d.operandBatchingDims = []) (hsim : d.startIndexMap = [0]) (hivd : d.indexVectorDim = 1)
    (miss : (⟨2, ![n, 128]⟩ : Shape).Idx → Elt F .f32) :
    select (broadcastInDim ⟨2, ![n, 128]⟩ ![0] hm (Host.reduce IntOp.andi
        (andi (cmpi .sge (column a hb hc) (broadcastInDim ⟨2, ![n, 1]⟩ ![] hz (constantI ⟨0, ![]⟩ 32 0#32)))
          (cmpi .sle (column a hb hc) (broadcastInDim ⟨2, ![n, 1]⟩ ![0, 1] h11 (broadcastInDim ⟨2, ![1, 1]⟩ ![1] h1 (constantI ⟨1, ![1]⟩ 32 99999#32)))))
        (constantI ⟨0, ![]⟩ 1 1#1) hr hu)) (Host.gather d tb (column a hb hc)) miss
      = fun x => tabAt tb (a fun | 0 => x 0) (x 1) := by
  funext x
  have hmask : ∀ j, Host.reduce IntOp.andi
        (andi (cmpi .sge (column a hb hc) (broadcastInDim ⟨2, ![n, 1]⟩ ![] hz (constantI ⟨0, ![]⟩ 32 0#32)))
          (cmpi .sle (column a hb hc) (broadcastInDim ⟨2, ![n, 1]⟩ ![0, 1] h11 (broadcastInDim ⟨2, ![1, 1]⟩ ![1] h1 (constantI ⟨1, ![1]⟩ 32 99999#32)))))
        (constantI ⟨0, ![]⟩ 1 1#1) hr hu j = 1#1 := fun j =>
    Host.reduce_andi_one _ _ hr hu j rfl fun i => within (w := column a hb hc i) (by rw [column_at a h hb hc i]; exact h _)
  refine (if_pos (hmask _)).trans ?_
  obtain ⟨i, l, rfl⟩ : ∃ i l, x = ix2 i l := ⟨x 0, x 1, eq_ix2 x⟩
  have hw := h (fun | 0 => i)
  refine (Routing.gather_row d hoff hcoll hob hsim hivd tb (column a hb hc) i l ⟨(a fun | 0 => i).toNat, hw⟩ ?_ (by decide)).trans ?_
  · refine (column_at a h hb hc _).trans ?_
    rw [BitVec.ofNat_toNat, BitVec.setWidth_eq]
    rfl
  · refine congrArg tb (funext fun k => ?_)
    match k with
    | 0 => exact Fin.ext (Nat.mod_eq_of_lt hw).symm
    | 1 => rfl

/-! ## The three results -/

/-- The long index array read flat: word `n` is the word at row `n / 64`, column `n % 64`. -/
theorem flat_at (a : S16384x64.Idx → BitVec 32) (h : S16384x64.ShapeCasts Cert.ReferenceIdeal.S1048576) (x : Cert.ReferenceIdeal.S1048576.Idx) :
    shapeCast Cert.ReferenceIdeal.S1048576 a h x = a (ixN (x 0).val (x 0).isLt) :=
  congrArg a (Shape.reshapeEquiv_eq_of_rowMajor _ ((Shape.rowMajor_val_two (d := ![16384, 64]) _).trans
    ((Nat.div_add_mod' _ 64).trans (Shape.rowMajor_val_one (d := ![1048576]) x).symm)))

/-- Where one of the reference's arrays lies. -/
abbrev refLoc (c : Dev Cert.ReferenceIdeal.nD) (b : Ref Cert.ReferenceIdeal.sig .tc) : Loc Cert.ReferenceIdeal.nD Cert.ReferenceIdeal.τ Cert.ReferenceIdeal.sig :=
  (c.tc : Thread Cert.ReferenceIdeal.nD Cert.ReferenceIdeal.τ).loc b

/-- The reference's run from a memory whose index words are all in range: its arguments are kept and its three results are the gathered rows. -/
theorem ref_run [FloatOps F] (m : (ℓ : Loc Cert.ReferenceIdeal.nD Cert.ReferenceIdeal.τ Cert.ReferenceIdeal.sig) → Buf (Elt F) ℓ)
    (ρ : Dev Cert.ReferenceIdeal.nD → PrngReg)
    (a b : Dev Cert.ReferenceIdeal.nD → S16384.Idx → BitVec 32) (n : Dev Cert.ReferenceIdeal.nD → S16384x64.Idx → BitVec 32)
    (t u : Dev Cert.ReferenceIdeal.nD → S100000x128.Idx → Elt F .f32)
    (ha : ∀ c, m (refLoc c Cert.ReferenceIdeal.main_arg0) = a c) (hb : ∀ c, m (refLoc c Cert.ReferenceIdeal.main_arg1) = b c)
    (hn : ∀ c, m (refLoc c Cert.ReferenceIdeal.main_arg2) = n c) (ht : ∀ c, m (refLoc c Cert.ReferenceIdeal.main_arg3) = t c)
    (hu : ∀ c, m (refLoc c Cert.ReferenceIdeal.main_arg4) = u c)
    (la : ∀ c i, (a c i).toNat < 100000) (lb : ∀ c i, (b c i).toNat < 100000) (ln : ∀ c i, (n c i).toNat < 100000) :
    θ_run (Cert.ReferenceIdeal.defs (F := F)) (onTc (τ := Cert.ReferenceIdeal.τ) (Cert.ReferenceIdeal.main (F := F))) ⟨m, fun _ => 0, ρ⟩
      (fun r => ∀ c : Dev Cert.ReferenceIdeal.nD,
        r.2.mem (refLoc c Cert.ReferenceIdeal.main_v0) = takeS (t c) (a c)
        ∧ r.2.mem (refLoc c Cert.ReferenceIdeal.main_v1) = takeS (u c) (b c)
        ∧ r.2.mem (refLoc c Cert.ReferenceIdeal.main_v4) = foldZ (takeN (u c) (n c))
        ∧ r.2.mem (refLoc c Cert.ReferenceIdeal.main_arg0) = m (refLoc c Cert.ReferenceIdeal.main_arg0)
        ∧ r.2.mem (refLoc c Cert.ReferenceIdeal.main_arg1) = m (refLoc c Cert.ReferenceIdeal.main_arg1)
        ∧ r.2.mem (refLoc c Cert.ReferenceIdeal.main_arg2) = m (refLoc c Cert.ReferenceIdeal.main_arg2)
        ∧ r.2.mem (refLoc c Cert.ReferenceIdeal.main_arg3) = m (refLoc c Cert.ReferenceIdeal.main_arg3)
        ∧ r.2.mem (refLoc c Cert.ReferenceIdeal.main_arg4) = m (refLoc c Cert.ReferenceIdeal.main_arg4)) := by
  refine (θ_run (Cert.ReferenceIdeal.defs (F := F)) _ _).mono (fun r h c => ?_) (Cert.ReferenceIdeal.Value.run m ρ)
  obtain ⟨h0, h1, h4, hargs⟩ := h c
  have ea := ha c; have eb := hb c; have en := hn c; have et := ht c; have eu := hu c
  refine ⟨h0.trans ?_, h1.trans ?_, h4.trans ?_, hargs⟩
  · rw [ea, et]
    refine (take_rows (t c) (a c) (la c) Cert.ReferenceIdeal.Gen.bcast_S_S16384 Cert.ReferenceIdeal.Gen.bcast_S16384_S16384x1_0 Cert.ReferenceIdeal.Gen.bcast_S_S16384x1 Cert.ReferenceIdeal.Gen.bcast_S1_S1x1_1 Cert.ReferenceIdeal.Gen.bcast_S1x1_S16384x1_0_1
      Cert.ReferenceIdeal.Gen.reducesTo_S16384x1_S16384_d1 Cert.ReferenceIdeal.Gen.h_S_ Cert.ReferenceIdeal.Gen.bcast_S16384_S16384x128_0 Cert.ReferenceIdeal.gather_S100000x128_S16384x1_S16384x128_1_0_n_n_0_1_1128 rfl rfl rfl rfl rfl _).trans ?_
    clear h h0 h1 h4 hargs ea eb en et eu
    funext x
    refine congrArg (fun w => tabAt _ w (x 1)) (congrArg _ (funext fun k => ?_))
    match k with
    | 0 => rfl
  · rw [eb, eu]
    refine (take_rows (u c) (b c) (lb c) Cert.ReferenceIdeal.Gen.bcast_S_S16384 Cert.ReferenceIdeal.Gen.bcast_S16384_S16384x1_0 Cert.ReferenceIdeal.Gen.bcast_S_S16384x1 Cert.ReferenceIdeal.Gen.bcast_S1_S1x1_1 Cert.ReferenceIdeal.Gen.bcast_S1x1_S16384x1_0_1
      Cert.ReferenceIdeal.Gen.reducesTo_S16384x1_S16384_d1 Cert.ReferenceIdeal.Gen.h_S_ Cert.ReferenceIdeal.Gen.bcast_S16384_S16384x128_0 Cert.ReferenceIdeal.gather_S100000x128_S16384x1_S16384x128_1_0_n_n_0_1_1128 rfl rfl rfl rfl rfl _).trans ?_
    clear h h0 h1 h4 hargs ea eb en et eu
    funext x
    refine congrArg (fun w => tabAt _ w (x 1)) (congrArg _ (funext fun k => ?_))
    match k with
    | 0 => rfl
  · rw [en, eu]
    refine congrArg foldZ ?_
    refine (take_rows (u c) (shapeCast Cert.ReferenceIdeal.S1048576 (n c) _) (fun i => ln c _) Cert.ReferenceIdeal.Gen.bcast_S_S1048576 Cert.ReferenceIdeal.Gen.bcast_S1048576_S1048576x1_0 Cert.ReferenceIdeal.Gen.bcast_S_S1048576x1 Cert.ReferenceIdeal.Gen.bcast_S1_S1x1_1 Cert.ReferenceIdeal.Gen.bcast_S1x1_S1048576x1_0_1
      Cert.ReferenceIdeal.Gen.reducesTo_S1048576x1_S1048576_d1 Cert.ReferenceIdeal.Gen.h_S_ Cert.ReferenceIdeal.Gen.bcast_S1048576_S1048576x128_0 Cert.ReferenceIdeal.gather_S100000x128_S1048576x1_S1048576x128_1_0_n_n_0_1_1128 rfl rfl rfl rfl rfl _).trans ?_
    funext x
    exact congrArg (fun w => tabAt (u c) w (x 1)) (flat_at (n c) _ _)

end Cert.Proof.Rows

end
-- ==== Proof.lean ====
/-
  The proof of `Cert.Claim` (proofs.«01_k».proof.Defs): the frames of the three programs, the idealization, and the
  value claim. The run of the whole program is `Rows.run_main` (Proof/Launch.lean), for any floats; the reference's is
  `Rows.ref_run` (Proof/Ref.lean); the precondition's meaning is in Proof/Pre.lean.
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_words_in_vocab
public import proofs.«01_k».proof.Proof.Launch
public import proofs.«01_k».proof.Proof.Pre
public import proofs.«01_k».proof.Proof.Ref
public import Idealize.ShloMosaic.Lib.Quiescent

@[expose] public section

noncomputable section

namespace Cert.Proof

open Idealize.ShloMosaic Idealize.SL.Sem

/-- The kernel over bit-exact floats, every word in range, runs without fault, keeps its five arguments and ends with every counter at zero. -/
theorem frame_kernel : Cert.quiescent_Kernel := fun m ρ h =>
  (θ_run Cert.KernelIdeal.defs _ _).mono
    (fun _ e => ⟨fun c => ⟨(e.1 c).1, (e.1 c).2.1, (e.1 c).2.2.1, (e.1 c).2.2.2.1, (e.1 c).2.2.2.2.1⟩, e.2⟩)
    (Rows.run_main (F := Bits) m ρ (Rows.ok_bits m h))

/-- The same over the extended reals. -/
theorem frame_ideal : Cert.quiescent_KernelIdeal := fun m ρ h =>
  (θ_run Cert.KernelIdeal.defs _ _).mono
    (fun _ e => ⟨fun c => ⟨(e.1 c).1, (e.1 c).2.1, (e.1 c).2.2.1, (e.1 c).2.2.2.1, (e.1 c).2.2.2.2.1⟩, e.2⟩)
    (Rows.run_main (F := Ideal) m ρ (Rows.ok_ideal m h))

/-- The reference runs from any memory and keeps its arguments; it declares no semaphore. -/
theorem frame_ref (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem (Rows.refLoc c Cert.ReferenceIdeal.main_arg0) = m (Rows.refLoc c Cert.ReferenceIdeal.main_arg0)
        ∧ r.2.mem (Rows.refLoc c Cert.ReferenceIdeal.main_arg1) = m (Rows.refLoc c Cert.ReferenceIdeal.main_arg1)
        ∧ r.2.mem (Rows.refLoc c Cert.ReferenceIdeal.main_arg2) = m (Rows.refLoc c Cert.ReferenceIdeal.main_arg2)
        ∧ r.2.mem (Rows.refLoc c Cert.ReferenceIdeal.main_arg3) = m (Rows.refLoc c Cert.ReferenceIdeal.main_arg3)
        ∧ r.2.mem (Rows.refLoc c Cert.ReferenceIdeal.main_arg4) = m (Rows.refLoc c Cert.ReferenceIdeal.main_arg4)) ∧ r.2.sem = fun _ => 0) :=
  (θ_run Cert.ReferenceIdeal.defs _ _).mono (fun r e => ⟨fun c => (e c).2.2.2, sem_eq_zero_of_no_sems (by decide) r.2⟩)
    (Cert.ReferenceIdeal.Value.run (F := Ideal) m ρ)

/-- Kernel and reference, every word in range, end with the same three arrays: the rows the words name, of the first
    table for the first result and of the second for the other two. -/
theorem same_results : Cert.algebraic_KernelIdeal_ReferenceIdeal := by
  intro m ρ m' ρ' h agree
  have ok := Rows.ok_ideal m h
  refine ⟨fun c => Rows.takeS (Rows.argT m c) (Rows.argA m c), fun c => Rows.takeS (Rows.argU m c) (Rows.argB m c),
    fun c => Rows.foldZ (Rows.takeN (Rows.argU m c) (Rows.argN m c)), ?_, ?_⟩
  · refine (θ_run Cert.KernelIdeal.defs _ _).mono (fun r e c => ?_) (Rows.run_main (F := Ideal) m ρ ok)
    obtain ⟨a0, a1, a2, a3, a4, x, y, z⟩ := e.1 c
    exact ⟨x, y, z, a0, a1, a2, a3, a4⟩
  · exact Rows.ref_run m' ρ' (fun c => Rows.argA m c) (fun c => Rows.argB m c) (fun c => Rows.argN m c) (fun c => Rows.argT m c) (fun c => Rows.argU m c)
      (fun c => (agree c).1) (fun c => (agree c).2.1) (fun c => (agree c).2.2.1) (fun c => (agree c).2.2.2.1) (fun c => (agree c).2.2.2.2)
      (fun c => (ok c).1) (fun c => (ok c).2.1) (fun c => (ok c).2.2)

/-- Every claim of the certificate. -/
theorem claim : Cert.Claim :=
  ⟨Cert.Kernel.Gen.facts, Cert.KernelIdeal.Gen.facts, Cert.ReferenceIdeal.Gen.facts, Cert.Pre_words_in_vocab.Gen.facts,
    frame_kernel, frame_ideal, fun m ρ _ => frame_ref m ρ, fun m ρ _ => frame_ref m ρ, trivial, same_results⟩

end Cert.Proof

end
